-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bounds [hPre_finite_bounds : Cert.Pre_finite_bounds.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bounds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bounds [hPre_finite_bounds : Cert.Pre_finite_bounds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bounds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_bounds [hKernelIdeal : Cert.KernelIdeal.Facts] [hPre_finite_bounds : Cert.Pre_finite_bounds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bounds m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_bounds [hReferenceIdeal : Cert.ReferenceIdeal.Facts] [hPre_finite_bounds : Cert.Pre_finite_bounds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bounds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def preserves_Kernel_KernelIdeal : Prop :=
  True

def algebraic_KernelIdeal_ReferenceIdeal_pre_finite_bounds [hKernelIdeal : Cert.KernelIdeal.Facts] [hReferenceIdeal : Cert.ReferenceIdeal.Facts] [hPre_finite_bounds : Cert.Pre_finite_bounds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bounds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v7) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v54) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v16) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite_bounds : Cert.Pre_finite_bounds.Facts),
    quiescent_Kernel (hKernel := hKernel)
    ∧ quiescent_KernelIdeal (hKernelIdeal := hKernelIdeal)
    ∧ quiescent_KernelIdeal_pre_finite_bounds (hKernelIdeal := hKernelIdeal) (hPre_finite_bounds := hPre_finite_bounds)
    ∧ quiescent_ReferenceIdeal (hReferenceIdeal := hReferenceIdeal)
    ∧ quiescent_ReferenceIdeal_pre_finite_bounds (hReferenceIdeal := hReferenceIdeal) (hPre_finite_bounds := hPre_finite_bounds)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite_bounds (hKernelIdeal := hKernelIdeal) (hReferenceIdeal := hReferenceIdeal) (hPre_finite_bounds := hPre_finite_bounds)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite_bounds.lean ====
abbrev S16384x14336 : Shape := ⟨2, ![16384, 14336]⟩
abbrev S2x2048 : Shape := ⟨2, ![2, 2048]⟩
abbrev S2048 : Shape := ⟨1, ![2048]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel

variable [Facts]

def fn {F : FTy → Type} [FloatOps F] (main_arg0 : FVec F S16384x14336 .f32) (main_arg1 : FVec F S2x2048 .f32) (main_arg2 : FVec F S2048 .f32) : IVec S_ 1 :=
  let main_v0 : FVec F S2x2048 .f32 := Host.absf main_arg1
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  let main_c : IVec S_ 1 := constantI S_ 1 1#1
  let main_v3 : IVec S_ 1 := (fun x v => Host.reduce IntOp.andi x v reducesTo_S2x2048_S_d0_1 h_S_) main_v2 main_c
  main_v3
-- ==== Kernel.lean ====
abbrev S16384x14336 : Shape := ⟨2, ![16384, 14336]⟩
abbrev S2x2048 : Shape := ⟨2, ![2, 2048]⟩
abbrev S2048 : Shape := ⟨1, ![2048]⟩
abbrev S1x2048 : Shape := ⟨2, ![1, 2048]⟩
abbrev S16384x2048 : Shape := ⟨2, ![16384, 2048]⟩
abbrev S64x2048 : Shape := ⟨2, ![64, 2048]⟩
abbrev S16x128x128 : Shape := ⟨3, ![16, 128, 128]⟩
abbrev S64x64 : Shape := ⟨2, ![64, 64]⟩
abbrev S64x1 : Shape := ⟨2, ![64, 1]⟩
abbrev S64x128 : Shape := ⟨2, ![64, 128]⟩
abbrev S1x128x128 : Shape := ⟨3, ![1, 128, 128]⟩
abbrev S128x128 : Shape := ⟨2, ![128, 128]⟩
abbrev S1x128 : Shape := ⟨2, ![1, 128]⟩
abbrev S64 : Shape := ⟨1, ![64]⟩

abbrev nBuf : Space → Nat
  | .hbm => 5
  | .vmem => 13
  | .smem => 0
  | _ => 0

abbrev bufTy : (tb : Table) → Fin (tcTables nBuf tb) → BufTy
  | .hbm, ⟨0, _⟩ => ⟨S16384x14336, .f32⟩
  | .hbm, ⟨1, _⟩ => ⟨S2x2048, .f32⟩
  | .hbm, ⟨2, _⟩ => ⟨S2048, .f32⟩
  | .hbm, ⟨3, _⟩ => ⟨S1x2048, .f32⟩
  | .hbm, ⟨4, _⟩ => ⟨S16384x2048, .bf16⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S2x2048, .f32⟩
  | .local _ .vmem, ⟨9, _⟩ => ⟨S1x2048, .f32⟩
  | .local _ .vmem, ⟨10, _⟩ => ⟨S64x2048, .bf16⟩
  | .local _ .vmem, ⟨11, _⟩ => ⟨S64x2048, .bf16⟩
  | .local _ .vmem, ⟨12, _⟩ => ⟨S16x128x128, .f32⟩
  | _, _ => ⟨S16384x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c6_i32 : BitVec 32 := 6#32
  let c0_i32 : BitVec 32 := 0#32
  ![v1.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x14336 : Shape := ⟨2, ![16384, 14336]⟩
abbrev S2x2048 : Shape := ⟨2, ![2, 2048]⟩
abbrev S2048 : Shape := ⟨1, ![2048]⟩
abbrev S16384x2048 : Shape := ⟨2, ![16384, 2048]⟩
abbrev S2x8192x2048 : Shape := ⟨3, ![2, 8192, 2048]⟩
abbrev S_ : Shape := ⟨0, ![]⟩
abbrev S1x2048 : Shape := ⟨2, ![1, 2048]⟩
abbrev S1x1x2048 : Shape := ⟨3, ![1, 1, 2048]⟩
abbrev S2x8192x16x128 : Shape := ⟨4, ![2, 8192, 16, 128]⟩
abbrev S64x64 : Shape := ⟨2, ![64, 64]⟩
abbrev S2x16x128x128 : Shape := ⟨4, ![2, 16, 128, 128]⟩
abbrev S2x128x64x16x128 : Shape := ⟨5, ![2, 128, 64, 16, 128]⟩
abbrev S128x2x64x16x128 : Shape := ⟨5, ![128, 2, 64, 16, 128]⟩
abbrev S1x2x64x16x128 : Shape := ⟨5, ![1, 2, 64, 16, 128]⟩
abbrev S2x64x16x128 : Shape := ⟨4, ![2, 64, 16, 128]⟩
abbrev S2x1x16x128 : Shape := ⟨4, ![2, 1, 16, 128]⟩
abbrev S2x16x128 : Shape := ⟨3, ![2, 16, 128]⟩
abbrev S1x64x64x1x1 : Shape := ⟨5, ![1, 64, 64, 1, 1]⟩
abbrev S2x64x1x16x128 : Shape := ⟨5, ![2, 64, 1, 16, 128]⟩
abbrev S2x1x64x16x128 : Shape := ⟨5, ![2, 1, 64, 16, 128]⟩
abbrev S2x64x64x16x128 : Shape := ⟨5, ![2, 64, 64, 16, 128]⟩
abbrev S2x64x64x16 : Shape := ⟨4, ![2, 64, 64, 16]⟩
abbrev S2x16x64x64 : Shape := ⟨4, ![2, 16, 64, 64]⟩
abbrev S2x16x128x64 : Shape := ⟨4, ![2, 16, 128, 64]⟩
abbrev S2x16x128x1 : Shape := ⟨4, ![2, 16, 128, 1]⟩
abbrev S2x8192x16 : Shape := ⟨3, ![2, 8192, 16]⟩
abbrev S2x8192x16x1 : Shape := ⟨4, ![2, 8192, 16, 1]⟩

abbrev nBuf : Space → Nat
  | .hbm => 199
  | .vmem => 0
  | .smem => 0
  | _ => 0

abbrev hbmTy0_0 (i : Nat) : BufTy := match i % 128 with
  | 0 => ⟨S16384x14336, .f32⟩
  | 1 => ⟨S2x2048, .f32⟩
  | 2 => ⟨S2048, .f32⟩
  | 3 => ⟨S16384x2048, .f32⟩
  | 4 => ⟨S2x8192x2048, .f32⟩
  | 5 => ⟨S16384x2048, .f32⟩
  | 6 => ⟨S2x8192x2048, .f32⟩
  | 7 => ⟨S16384x2048, .f32⟩
  | 8 => ⟨S2x8192x2048, .f32⟩
  | 9 => ⟨S_, .f32⟩
  | 10 => ⟨S2048, .f32⟩
  | 11 => ⟨S_, .f32⟩
  | 12 => ⟨S2048, .f32⟩
  | 13 => ⟨S2048, .f32⟩
  | 14 => ⟨S1x2048, .f32⟩
  | 15 => ⟨S2x2048, .f32⟩
  | 16 => ⟨S2x2048, .f32⟩
  | 17 => ⟨S2x2048, .f32⟩
  | 18 => ⟨S_, .f32⟩
  | 19 => ⟨S2048, .f32⟩
  | 20 => ⟨S1x2048, .f32⟩
  | 21 => ⟨S2x2048, .f32⟩
  | 22 => ⟨S2x2048, .f32⟩
  | 23 => ⟨S_, .f32⟩
  | 24 => ⟨S_, .f32⟩
  | 25 => ⟨S2x2048, .f32⟩
  | 26 => ⟨S1x2048, .f32⟩
  | 27 => ⟨S2048, .f32⟩
  | 28 => ⟨S1x2048, .f32⟩
  | 29 => ⟨S2048, .f32⟩
  | 30 => ⟨S2048, .f32⟩
  | 31 => ⟨S_, .f32⟩
  | 32 => ⟨S2048, .f32⟩
  | 33 => ⟨S2048, .f32⟩
  | 34 => ⟨S2x8192x2048, .f32⟩
  | 35 => ⟨S2x8192x2048, .f32⟩
  | 36 => ⟨S_, .f32⟩
  | 37 => ⟨S2x8192x2048, .f32⟩
  | 38 => ⟨S2x8192x2048, .f32⟩
  | 39 => ⟨S_, .f32⟩
  | 40 => ⟨S2x8192x2048, .f32⟩
  | 41 => ⟨S2x8192x2048, .f32⟩
  | 42 => ⟨S1x1x2048, .f32⟩
  | 43 => ⟨S2x8192x2048, .f32⟩
  | 44 => ⟨S2x8192x2048, .f32⟩
  | 45 => ⟨S1x1x2048, .f32⟩
  | 46 => ⟨S2x8192x2048, .f32⟩
  | 47 => ⟨S2x8192x2048, .f32⟩
  | 48 => ⟨S2x8192x2048, .f32⟩
  | 49 => ⟨S2x8192x16x128, .f32⟩
  | 50 => ⟨S_, .f32⟩
  | 51 => ⟨S2x8192x2048, .f32⟩
  | 52 => ⟨S2x8192x2048, .f32⟩
  | 53 => ⟨S2x8192x16x128, .f32⟩
  | 54 => ⟨S2x8192x16x128, .f32⟩
  | 55 => ⟨S2x8192x16x128, .f32⟩
  | 56 => ⟨S_, .i1⟩
  | 57 => ⟨S64x64, .i1⟩
  | 58 => ⟨S64x64, .i32⟩
  | 59 => ⟨S_, .i32⟩
  | 60 => ⟨S64x64, .i32⟩
  | 61 => ⟨S64x64, .i32⟩
  | 62 => ⟨S64x64, .i32⟩
  | 63 => ⟨S64x64, .i1⟩
  | 64 => ⟨S_, .i1⟩
  | 65 => ⟨S64x64, .i1⟩
  | 66 => ⟨S64x64, .i1⟩
  | 67 => ⟨S_, .f32⟩
  | 68 => ⟨S2x16x128x128, .f32⟩
  | 69 => ⟨S2x128x64x16x128, .f32⟩
  | 70 => ⟨S128x2x64x16x128, .f32⟩
  | 71 => ⟨S2x128x64x16x128, .f32⟩
  | 72 => ⟨S128x2x64x16x128, .f32⟩
  | 73 => ⟨S2x128x64x16x128, .f32⟩
  | 74 => ⟨S128x2x64x16x128, .f32⟩
  | 75 => ⟨S2x128x64x16x128, .f32⟩
  | 76 => ⟨S128x2x64x16x128, .f32⟩
  | 77 => ⟨S_, .f32⟩
  | 78 => ⟨S128x2x64x16x128, .f32⟩
  | 79 => ⟨S_, .i32⟩
  | 80 => ⟨S128x2x64x16x128, .f32⟩
  | 81 => ⟨S128x2x64x16x128, .f32⟩
  | 82 => ⟨S128x2x64x16x128, .f32⟩
  | 83 => ⟨S128x2x64x16x128, .f32⟩
  | 84 => ⟨S64x64, .i1⟩
  | 85 => ⟨S_, .i32⟩
  | 86 => ⟨S2x16x128x128, .f32⟩
  | 87 => ⟨S128x2x64x16x128, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S1x2x64x16x128, .f32⟩
  | 95 => ⟨S2x64x16x128, .f32⟩
  | 96 => ⟨S_, .i32⟩
  | 97 => ⟨S_, .i32⟩
  | 98 => ⟨S_, .i32⟩
  | 99 => ⟨S_, .i32⟩
  | 100 => ⟨S1x2x64x16x128, .f32⟩
  | 101 => ⟨S2x64x16x128, .f32⟩
  | 102 => ⟨S_, .i32⟩
  | 103 => ⟨S_, .i32⟩
  | 104 => ⟨S_, .i32⟩
  | 105 => ⟨S_, .i32⟩
  | 106 => ⟨S1x2x64x16x128, .f32⟩
  | 107 => ⟨S2x64x16x128, .f32⟩
  | 108 => ⟨S_, .i32⟩
  | 109 => ⟨S_, .i32⟩
  | 110 => ⟨S_, .i32⟩
  | 111 => ⟨S_, .i32⟩
  | 112 => ⟨S1x2x64x16x128, .f32⟩
  | 113 => ⟨S2x64x16x128, .f32⟩
  | 114 => ⟨S_, .f32⟩
  | 115 => ⟨S_, .f32⟩
  | 116 => ⟨S2x64x16x128, .f32⟩
  | 117 => ⟨S2x1x16x128, .f32⟩
  | 118 => ⟨S2x16x128, .f32⟩
  | 119 => ⟨S1x64x64x1x1, .i1⟩
  | 120 => ⟨S2x64x1x16x128, .f32⟩
  | 121 => ⟨S2x1x64x16x128, .f32⟩
  | 122 => ⟨S2x64x64x16x128, .f32⟩
  | 123 => ⟨S2x64x64x16x128, .f32⟩
  | 124 => ⟨S2x64x64x16x128, .f32⟩
  | 125 => ⟨S_, .f32⟩
  | 126 => ⟨S_, .f32⟩
  | 127 => ⟨S2x64x64x16x128, .i1⟩
  | _ => ⟨S16384x14336, .f32⟩

abbrev hbmTy0_1 (i : Nat) : BufTy := match i % 128 with
  | 0 => ⟨S2x64x64x16x128, .f32⟩
  | 1 => ⟨S2x64x64x16x128, .f32⟩
  | 2 => ⟨S2x64x1x16x128, .f32⟩
  | 3 => ⟨S2x1x64x16x128, .f32⟩
  | 4 => ⟨S2x64x64x16x128, .f32⟩
  | 5 => ⟨S2x64x64x16x128, .f32⟩
  | 6 => ⟨S2x64x64x16x128, .f32⟩
  | 7 => ⟨S2x64x64x16x128, .f32⟩
  | 8 => ⟨S2x64x64x16x128, .f32⟩
  | 9 => ⟨S_, .f32⟩
  | 10 => ⟨S2x64x64x16, .f32⟩
  | 11 => ⟨S2x16x64x64, .f32⟩
  | 12 => ⟨S2x16x128x64, .f32⟩
  | 13 => ⟨S2x64x16x128, .f32⟩
  | 14 => ⟨S2x64x16x128, .f32⟩
  | 15 => ⟨S2x64x16x128, .f32⟩
  | 16 => ⟨S2x16x128x64, .f32⟩
  | 17 => ⟨S2x64x16x128, .f32⟩
  | 18 => ⟨S2x64x16x128, .f32⟩
  | 19 => ⟨S2x16x128, .f32⟩
  | 20 => ⟨S2x16x128x1, .f32⟩
  | 21 => ⟨S2x16x128x128, .f32⟩
  | 22 => ⟨S2x16x128x128, .f32⟩
  | 23 => ⟨S2x1x16x128, .f32⟩
  | 24 => ⟨S2x64x16x128, .f32⟩
  | 25 => ⟨S2x64x16x128, .f32⟩
  | 26 => ⟨S2x64x16x128, .f32⟩
  | 27 => ⟨S2x64x16x128, .f32⟩
  | 28 => ⟨S2x16x128x128, .f32⟩
  | 29 => ⟨S2x16x128x128, .f32⟩
  | 30 => ⟨S1x2x64x16x128, .f32⟩
  | 31 => ⟨S_, .i32⟩
  | 32 => ⟨S_, .i32⟩
  | 33 => ⟨S_, .i32⟩
  | 34 => ⟨S_, .i32⟩
  | 35 => ⟨S128x2x64x16x128, .f32⟩
  | 36 => ⟨S_, .i32⟩
  | 37 => ⟨S_, .i32⟩
  | 38 => ⟨S2x128x64x16x128, .f32⟩
  | 39 => ⟨S2x8192x16x128, .f32⟩
  | 40 => ⟨S16384x2048, .f32⟩
  | 41 => ⟨S2x8192x2048, .f32⟩
  | 42 => ⟨S2x8192x16x128, .f32⟩
  | 43 => ⟨S_, .f32⟩
  | 44 => ⟨S2x8192x16, .f32⟩
  | 45 => ⟨S2x8192x16x1, .f32⟩
  | 46 => ⟨S_, .f32⟩
  | 47 => ⟨S2x8192x16x1, .f32⟩
  | 48 => ⟨S2x8192x16x1, .f32⟩
  | 49 => ⟨S_, .f32⟩
  | 50 => ⟨S2x8192x16x1, .f32⟩
  | 51 => ⟨S2x8192x16x1, .f32⟩
  | 52 => ⟨S2x8192x16x1, .f32⟩
  | 53 => ⟨S2x8192x16x128, .f32⟩
  | 54 => ⟨S2x8192x16x128, .f32⟩
  | 55 => ⟨S2x8192x2048, .f32⟩
  | 56 => ⟨S1x1x2048, .f32⟩
  | 57 => ⟨S2x8192x2048, .f32⟩
  | 58 => ⟨S2x8192x2048, .f32⟩
  | 59 => ⟨S2x8192x2048, .f32⟩
  | 60 => ⟨S2x8192x2048, .f32⟩
  | 61 => ⟨S_, .f32⟩
  | 62 => ⟨S2x8192x2048, .f32⟩
  | 63 => ⟨S2x8192x2048, .f32⟩
  | 64 => ⟨S_, .f32⟩
  | 65 => ⟨S2x8192x2048, .f32⟩
  | 66 => ⟨S2x8192x2048, .f32⟩
  | 67 => ⟨S2x8192x2048, .f32⟩
  | 68 => ⟨S2x8192x2048, .f32⟩
  | 69 => ⟨S16384x2048, .f32⟩
  | 70 => ⟨S16384x2048, .bf16⟩
  | _ => ⟨S16384x14336, .f32⟩

abbrev hbmTy (i : Nat) : BufTy := match i / 128 with
  | 0 => hbmTy0_0 i
  | 1 => hbmTy0_1 i
  | _ => ⟨S16384x14336, .f32⟩

abbrev bufTy : (tb : Table) → Fin (tcTables nBuf tb) → BufTy
  | .hbm, ⟨i, _⟩ => hbmTy i
  | _, _ => ⟨S16384x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_call0_cst : Ref sig .tc := ⟨.hbm, 23, rfl⟩
abbrev main_call0_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c : Ref sig .tc := ⟨.hbm, 56, rfl⟩
abbrev main_v44 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_0 : Ref sig .tc := ⟨.hbm, 64, rfl⟩
abbrev main_call1_v5 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_c_8 : Ref sig .tc := ⟨.hbm, 79, rfl⟩
abbrev main_v56_0 : Ref sig .tc := ⟨.hbm, 80, rfl⟩
abbrev main_v56_1 : Ref sig .tc := ⟨.hbm, 81, rfl⟩
abbrev main_v56_2 : Ref sig .tc := ⟨.hbm, 82, rfl⟩
abbrev main_v56_3 : Ref sig .tc := ⟨.hbm, 83, rfl⟩
abbrev main_v56_4 : Ref sig .tc := ⟨.hbm, 84, rfl⟩
abbrev main_v56_5 : Ref sig .tc := ⟨.hbm, 85, rfl⟩
abbrev main_v56_6 : Ref sig .tc := ⟨.hbm, 86, rfl⟩
abbrev main_v56_7 : Ref sig .tc := ⟨.hbm, 87, rfl⟩
abbrev main_while0c_c_19 : Ref sig .tc := ⟨.hbm, 88, rfl⟩
abbrev main_while0c_v79 : Ref sig .tc := ⟨.hbm, 89, rfl⟩
abbrev main_while0b_call2_c : Ref sig .tc := ⟨.hbm, 90, rfl⟩
abbrev main_while0b_call2_c_0 : Ref sig .tc := ⟨.hbm, 91, rfl⟩
abbrev main_while0b_call2_c_1 : Ref sig .tc := ⟨.hbm, 92, rfl⟩
abbrev main_while0b_call2_c_2 : Ref sig .tc := ⟨.hbm, 93, rfl⟩
abbrev main_while0b_call2_v0 : Ref sig .tc := ⟨.hbm, 94, rfl⟩
abbrev main_while0b_v79 : Ref sig .tc := ⟨.hbm, 95, rfl⟩
abbrev main_while0b_call3_c : Ref sig .tc := ⟨.hbm, 96, rfl⟩
abbrev main_while0b_call3_c_0 : Ref sig .tc := ⟨.hbm, 97, rfl⟩
abbrev main_while0b_call3_c_1 : Ref sig .tc := ⟨.hbm, 98, rfl⟩
abbrev main_while0b_call3_c_2 : Ref sig .tc := ⟨.hbm, 99, rfl⟩
abbrev main_while0b_call3_v0 : Ref sig .tc := ⟨.hbm, 100, rfl⟩
abbrev main_while0b_v80 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_call4_c_1 : Ref sig .tc := ⟨.hbm, 104, rfl⟩
abbrev main_while0b_call4_c_2 : Ref sig .tc := ⟨.hbm, 105, rfl⟩
abbrev main_while0b_call4_v0 : Ref sig .tc := ⟨.hbm, 106, rfl⟩
abbrev main_while0b_v81 : Ref sig .tc := ⟨.hbm, 107, rfl⟩
abbrev main_while0b_call5_c : Ref sig .tc := ⟨.hbm, 108, rfl⟩
abbrev main_while0b_call5_c_0 : Ref sig .tc := ⟨.hbm, 109, rfl⟩
abbrev main_while0b_call5_c_1 : Ref sig .tc := ⟨.hbm, 110, rfl⟩
abbrev main_while0b_call5_c_2 : Ref sig .tc := ⟨.hbm, 111, rfl⟩
abbrev main_while0b_call5_v0 : Ref sig .tc := ⟨.hbm, 112, rfl⟩
abbrev main_while0b_v82 : Ref sig .tc := ⟨.hbm, 113, rfl⟩
abbrev main_while0b_call6_call0_cst : Ref sig .tc := ⟨.hbm, 114, rfl⟩
abbrev main_while0b_call6_call0_v0 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_v87 : Ref sig .tc := ⟨.hbm, 120, rfl⟩
abbrev main_while0b_v88 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_cst_19 : Ref sig .tc := ⟨.hbm, 125, rfl⟩
abbrev main_while0b_call7_v0 : Ref sig .tc := ⟨.hbm, 126, rfl⟩
abbrev main_while0b_call7_v1 : Ref sig .tc := ⟨.hbm, 127, rfl⟩
abbrev main_while0b_call7_v2 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_v95 : Ref sig .tc := ⟨.hbm, 132, rfl⟩
abbrev main_while0b_v96 : Ref sig .tc := ⟨.hbm, 133, rfl⟩
abbrev main_while0b_v97 : Ref sig .tc := ⟨.hbm, 134, rfl⟩
abbrev main_while0b_v98 : Ref sig .tc := ⟨.hbm, 135, rfl⟩
abbrev main_while0b_v99 : Ref sig .tc := ⟨.hbm, 136, rfl⟩
abbrev main_while0b_cst_20 : Ref sig .tc := ⟨.hbm, 137, rfl⟩
abbrev main_while0b_v100 : Ref sig .tc := ⟨.hbm, 138, rfl⟩
abbrev main_while0b_v101 : Ref sig .tc := ⟨.hbm, 139, rfl⟩
abbrev main_while0b_v102 : Ref sig .tc := ⟨.hbm, 140, rfl⟩
abbrev main_while0b_v103 : Ref sig .tc := ⟨.hbm, 141, rfl⟩
abbrev main_while0b_v104 : Ref sig .tc := ⟨.hbm, 142, rfl⟩
abbrev main_while0b_v105 : Ref sig .tc := ⟨.hbm, 143, rfl⟩
abbrev main_while0b_v106 : Ref sig .tc := ⟨.hbm, 144, rfl⟩
abbrev main_while0b_v107 : Ref sig .tc := ⟨.hbm, 145, rfl⟩
abbrev main_while0b_v108 : Ref sig .tc := ⟨.hbm, 146, rfl⟩
abbrev main_while0b_v109 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_v114 : Ref sig .tc := ⟨.hbm, 152, rfl⟩
abbrev main_while0b_v115 : Ref sig .tc := ⟨.hbm, 153, rfl⟩
abbrev main_while0b_v116 : Ref sig .tc := ⟨.hbm, 154, rfl⟩
abbrev main_while0b_v117 : Ref sig .tc := ⟨.hbm, 155, rfl⟩
abbrev main_while0b_v118 : Ref sig .tc := ⟨.hbm, 156, rfl⟩
abbrev main_while0b_v119 : Ref sig .tc := ⟨.hbm, 157, rfl⟩
abbrev main_while0b_call8_v0 : Ref sig .tc := ⟨.hbm, 158, rfl⟩
abbrev main_while0b_call8_c : Ref sig .tc := ⟨.hbm, 159, rfl⟩
abbrev main_while0b_call8_c_0 : Ref sig .tc := ⟨.hbm, 160, rfl⟩
abbrev main_while0b_call8_c_1 : Ref sig .tc := ⟨.hbm, 161, rfl⟩
abbrev main_while0b_call8_c_2 : Ref sig .tc := ⟨.hbm, 162, rfl⟩
abbrev main_while0b_v120 : Ref sig .tc := ⟨.hbm, 163, rfl⟩
abbrev main_while0b_c_21 : Ref sig .tc := ⟨.hbm, 164, rfl⟩
abbrev main_while0b_v121 : Ref sig .tc := ⟨.hbm, 165, rfl⟩
abbrev main_v57 : Ref sig .tc := ⟨.hbm, 166, rfl⟩
abbrev main_v58 : Ref sig .tc := ⟨.hbm, 167, rfl⟩
abbrev main_v59 : Ref sig .tc := ⟨.hbm, 168, rfl⟩
abbrev main_v60 : Ref sig .tc := ⟨.hbm, 169, rfl⟩
abbrev main_v61 : Ref sig .tc := ⟨.hbm, 170, rfl⟩
abbrev main_cst_9 : Ref sig .tc := ⟨.hbm, 171, rfl⟩
abbrev main_v62 : Ref sig .tc := ⟨.hbm, 172, rfl⟩
abbrev main_v63 : Ref sig .tc := ⟨.hbm, 173, rfl⟩
abbrev main_cst_10 : Ref sig .tc := ⟨.hbm, 174, rfl⟩
abbrev main_v64 : Ref sig .tc := ⟨.hbm, 175, rfl⟩
abbrev main_v65 : Ref sig .tc := ⟨.hbm, 176, rfl⟩
abbrev main_cst_11 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_v74 : Ref sig .tc := ⟨.hbm, 186, rfl⟩
abbrev main_call9_v0 : Ref sig .tc := ⟨.hbm, 187, rfl⟩
abbrev main_call9_v1 : Ref sig .tc := ⟨.hbm, 188, rfl⟩
abbrev main_call9_cst : Ref sig .tc := ⟨.hbm, 189, rfl⟩
abbrev main_call9_v2 : Ref sig .tc := ⟨.hbm, 190, rfl⟩
abbrev main_call9_v3 : Ref sig .tc := ⟨.hbm, 191, rfl⟩
abbrev main_call9_cst_0 : Ref sig .tc := ⟨.hbm, 192, rfl⟩
abbrev main_call9_v4 : Ref sig .tc := ⟨.hbm, 193, rfl⟩
abbrev main_call9_v5 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S16384x4096 : Shape := ⟨2, ![16384, 4096]⟩
abbrev S2x4096x22016 : Shape := ⟨3, ![2, 4096, 22016]⟩
abbrev S2x11008x4096 : Shape := ⟨3, ![2, 11008, 4096]⟩
abbrev S16384x11008 : Shape := ⟨2, ![16384, 11008]⟩
abbrev S8x11008x512 : Shape := ⟨3, ![8, 11008, 512]⟩
abbrev S2048x4096 : Shape := ⟨2, ![2048, 4096]⟩
abbrev S1x4096x256 : Shape := ⟨3, ![1, 4096, 256]⟩
abbrev S1x32x4096 : Shape := ⟨3, ![1, 32, 4096]⟩
abbrev S2048x256 : Shape := ⟨2, ![2048, 256]⟩
abbrev S8x32x512 : Shape := ⟨3, ![8, 32, 512]⟩
abbrev S1x32x512 : Shape := ⟨3, ![1, 32, 512]⟩
abbrev S32x512 : Shape := ⟨2, ![32, 512]⟩
abbrev S4096x256 : Shape := ⟨2, ![4096, 256]⟩
abbrev S128x4096 : Shape := ⟨2, ![128, 4096]⟩
abbrev S128x256 : Shape := ⟨2, ![128, 256]⟩

abbrev nBuf : Space → Nat
  | .hbm => 5
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S2x11008x4096, .f32⟩
  | .hbm, ⟨3, _⟩ => ⟨S16384x11008, .bf16⟩
  | .hbm, ⟨4, _⟩ => ⟨S8x11008x512, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x32x4096, .f32⟩
  | .local _ .vmem, ⟨7, _⟩ => ⟨S1x32x4096, .f32⟩
  | .local _ .vmem, ⟨8, _⟩ => ⟨S2048x256, .bf16⟩
  | .local _ .vmem, ⟨9, _⟩ => ⟨S2048x256, .bf16⟩
  | .local _ .vmem, ⟨10, _⟩ => ⟨S8x32x512, .bf16⟩
  | .local _ .vmem, ⟨11, _⟩ => ⟨S8x32x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x4096 : Shape := ⟨2, ![16384, 4096]⟩
abbrev S2x4096x22016 : Shape := ⟨3, ![2, 4096, 22016]⟩
abbrev S2x11008x4096 : Shape := ⟨3, ![2, 11008, 4096]⟩
abbrev S1x4096x22016 : Shape := ⟨3, ![1, 4096, 22016]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩
abbrev S1x11008x4096 : Shape := ⟨3, ![1, 11008, 4096]⟩
abbrev S11008x4096 : Shape := ⟨2, ![11008, 4096]⟩
abbrev S11008x8x512 : Shape := ⟨3, ![11008, 8, 512]⟩
abbrev S8x11008x512 : Shape := ⟨3, ![8, 11008, 512]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x22016, .f32⟩
  | .hbm, ⟨2, _⟩ => ⟨S2x11008x4096, .f32⟩
  | .hbm, ⟨3, _⟩ => ⟨S16384x4096, .f32⟩
  | .hbm, ⟨4, _⟩ => ⟨S1x4096x22016, .f32⟩
  | .hbm, ⟨5, _⟩ => ⟨S4096x22016, .f32⟩
  | .hbm, ⟨6, _⟩ => ⟨S16384x22016, .f32⟩
  | .hbm, ⟨7, _⟩ => ⟨S16384x11008, .f32⟩
  | .hbm, ⟨8, _⟩ => ⟨S16384x11008, .f32⟩
  | .hbm, ⟨9, _⟩ => ⟨S16384x11008, .f32⟩
  | .hbm, ⟨10, _⟩ => ⟨S_, .f32⟩
  | .hbm, ⟨11, _⟩ => ⟨S16384x11008, .f32⟩
  | .hbm, ⟨12, _⟩ => ⟨S16384x11008, .f32⟩
  | .hbm, ⟨13, _⟩ => ⟨S_, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S16384x11008, .f32⟩
  | .hbm, ⟨19, _⟩ => ⟨S16384x11008, .bf16⟩
  | .hbm, ⟨20, _⟩ => ⟨S1x11008x4096, .f32⟩
  | .hbm, ⟨21, _⟩ => ⟨S11008x4096, .f32⟩
  | .hbm, ⟨22, _⟩ => ⟨S11008x8x512, .f32⟩
  | .hbm, ⟨23, _⟩ => ⟨S8x11008x512, .f32⟩
  | .hbm, ⟨24, _⟩ => ⟨S8x11008x512, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Kernel3.lean ====
abbrev S16384x11008 : Shape := ⟨2, ![16384, 11008]⟩
abbrev S8x11008x512 : Shape := ⟨3, ![8, 11008, 512]⟩
abbrev S16384x4096 : Shape := ⟨2, ![16384, 4096]⟩
abbrev S512x11008 : Shape := ⟨2, ![512, 11008]⟩
abbrev S1x11008x512 : Shape := ⟨3, ![1, 11008, 512]⟩
abbrev S512x512 : Shape := ⟨2, ![512, 512]⟩
abbrev S11008x512 : Shape := ⟨2, ![11008, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x11008, .bf16⟩
  | .hbm, ⟨1, _⟩ => ⟨S8x11008x512, .bf16⟩
  | .hbm, ⟨2, _⟩ => ⟨S16384x4096, .bf16⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .bf16⟩
  | .local _ .vmem, ⟨5, _⟩ => ⟨S512x512, .bf16⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x11008 : Shape := ⟨2, ![16384, 11008]⟩
abbrev S8x11008x512 : Shape := ⟨3, ![8, 11008, 512]⟩
abbrev S11008x8x512 : Shape := ⟨3, ![11008, 8, 512]⟩
abbrev S11008x4096 : Shape := ⟨2, ![11008, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S8x11008x512, .bf16⟩
  | .hbm, ⟨2, _⟩ => ⟨S8x11008x512, .f32⟩
  | .hbm, ⟨3, _⟩ => ⟨S11008x8x512, .f32⟩
  | .hbm, ⟨4, _⟩ => ⟨S11008x4096, .f32⟩
  | .hbm, ⟨5, _⟩ => ⟨S16384x11008, .f32⟩
  | .hbm, ⟨6, _⟩ => ⟨S16384x4096, .f32⟩
  | .hbm, ⟨7, _⟩ => ⟨S16384x4096, .bf16⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel4.lean ====
abbrev S16384x4096 : Shape := ⟨2, ![16384, 4096]⟩
abbrev S2x4096x14352 : Shape := ⟨3, ![2, 4096, 14352]⟩
abbrev S2x14352x4096 : Shape := ⟨3, ![2, 14352, 4096]⟩
abbrev S16384x14336 : Shape := ⟨2, ![16384, 14336]⟩
abbrev S16384x16 : Shape := ⟨2, ![16384, 16]⟩
abbrev S2048x4096 : Shape := ⟨2, ![2048, 4096]⟩
abbrev S1x512x4096 : Shape := ⟨3, ![1, 512, 4096]⟩
abbrev S1x16x4096 : Shape := ⟨3, ![1, 16, 4096]⟩
abbrev S2048x512 : Shape := ⟨2, ![2048, 512]⟩
abbrev S2048x16 : Shape := ⟨2, ![2048, 16]⟩
abbrev S16x4096 : Shape := ⟨2, ![16, 4096]⟩
abbrev S512x4096 : Shape := ⟨2, ![512, 4096]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x14352, .f32⟩
  | .hbm, ⟨2, _⟩ => ⟨S2x14352x4096, .f32⟩
  | .hbm, ⟨3, _⟩ => ⟨S16384x14336, .f32⟩
  | .hbm, ⟨4, _⟩ => ⟨S16384x16, .f32⟩
  | .local _ .vmem, ⟨0, _⟩ => ⟨S2048x4096, .bf16⟩
  | .local _ .vmem, ⟨1, _⟩ => ⟨S1x512x4096, .f32⟩
  | .local _ .vmem, ⟨2, _⟩ => ⟨S1x512x4096, .f32⟩
  | .local _ .vmem, ⟨3, _⟩ => ⟨S1x16x4096, .f32⟩
  | .local _ .vmem, ⟨4, _⟩ => ⟨S2048x512, .f32⟩
  | .local _ .vmem, ⟨5, _⟩ => ⟨S2048x512, .f32⟩
  | .local _ .vmem, ⟨6, _⟩ => ⟨S2048x16, .f32⟩
  | .local _ .vmem, ⟨7, _⟩ => ⟨S2048x16, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 28], ![false, false]⟩

def k0_mult1 (i : grid0.Coords) : BitVec 32 :=
  let c0_i32_0 : BitVec 32 := 0#32
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  let v2 : BitVec 32 := Scalar.addi c0_i32_0 v1
  let c6144_i32 : BitVec 32 := 6144#32
  let v3 : BitVec 1 := Scalar.cmpi .sge v1 c6144_i32
  let c16_i32 : BitVec 32 := 16#32
  let c0_i32_1 : BitVec 32 := 0#32
  let v4 : BitVec 32 := Scalar.select v3 c16_i32 c0_i32_1
  let v5 : BitVec 32 := Scalar.addi v2 v4
  v5
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let c0_i32_0 : BitVec 32 := 0#32
  let v2 : BitVec 32 := Scalar.addi c0_i32_0 v1
  let c6144_i32 : BitVec 32 := 6144#32
  let v3 : BitVec 1 := Scalar.cmpi .sge v1 c6144_i32
  let c16_i32 : BitVec 32 := 16#32
  let c0_i32_1 : BitVec 32 := 0#32
  let v4 : BitVec 32 := Scalar.select v3 c16_i32 c0_i32_1
  let v5 : BitVec 32 := Scalar.addi v2 v4
  let v6 : BitVec 32 := v5
  let c1_i32 : BitVec 32 := 1#32
  let c0_i32_2 : BitVec 32 := 0#32
  let c0_i32_3 : BitVec 32 := 0#32
  ![c1_i32.toNat, v6.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c6144_i32 : BitVec 32 := 6144#32
  let c0_i32 : BitVec 32 := 0#32
  let c0_i32_0 : BitVec 32 := 0#32
  ![c1_i32.toNat, c6144_i32.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S16384x4096 : Shape := ⟨2, ![16384, 4096]⟩
abbrev S2x4096x14352 : Shape := ⟨3, ![2, 4096, 14352]⟩
abbrev S1x4096x14352 : Shape := ⟨3, ![1, 4096, 14352]⟩
abbrev S4096x14352 : Shape := ⟨2, ![4096, 14352]⟩
abbrev S16384x14352 : Shape := ⟨2, ![16384, 14352]⟩
abbrev S16384x6144 : Shape := ⟨2, ![16384, 6144]⟩
abbrev S16384x8192 : Shape := ⟨2, ![16384, 8192]⟩
abbrev S16384x14336 : Shape := ⟨2, ![16384, 14336]⟩
abbrev S16384x16 : Shape := ⟨2, ![16384, 16]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x14352, .f32⟩
  | .hbm, ⟨2, _⟩ => ⟨S16384x4096, .f32⟩
  | .hbm, ⟨3, _⟩ => ⟨S1x4096x14352, .f32⟩
  | .hbm, ⟨4, _⟩ => ⟨S4096x14352, .f32⟩
  | .hbm, ⟨5, _⟩ => ⟨S16384x14352, .f32⟩
  | .hbm, ⟨6, _⟩ => ⟨S16384x6144, .f32⟩
  | .hbm, ⟨7, _⟩ => ⟨S16384x8192, .f32⟩
  | .hbm, ⟨8, _⟩ => ⟨S16384x14336, .f32⟩
  | .hbm, ⟨9, _⟩ => ⟨S16384x16, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel5.lean ====
abbrev S16384x4096 : Shape := ⟨2, ![16384, 4096]⟩
abbrev S2x4096x8192 : Shape := ⟨3, ![2, 4096, 8192]⟩
abbrev S8192 : Shape := ⟨1, ![8192]⟩
abbrev S1x8192 : Shape := ⟨2, ![1, 8192]⟩
abbrev S16384x8192 : Shape := ⟨2, ![16384, 8192]⟩
abbrev S2048x4096 : Shape := ⟨2, ![2048, 4096]⟩
abbrev S1x4096x512 : Shape := ⟨3, ![1, 4096, 512]⟩
abbrev S1x512 : Shape := ⟨2, ![1, 512]⟩
abbrev S2048x512 : Shape := ⟨2, ![2048, 512]⟩
abbrev S4096x512 : Shape := ⟨2, ![4096, 512]⟩
abbrev S128x4096 : Shape := ⟨2, ![128, 4096]⟩
abbrev S128x512 : Shape := ⟨2, ![128, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x8192, .f32⟩
  | .hbm, ⟨2, _⟩ => ⟨S8192, .f32⟩
  | .hbm, ⟨3, _⟩ => ⟨S1x8192, .f32⟩
  | .hbm, ⟨4, _⟩ => ⟨S16384x8192, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x4096 : Shape := ⟨2, ![16384, 4096]⟩
abbrev S2x4096x8192 : Shape := ⟨3, ![2, 4096, 8192]⟩
abbrev S8192 : Shape := ⟨1, ![8192]⟩
abbrev S1x4096x8192 : Shape := ⟨3, ![1, 4096, 8192]⟩
abbrev S4096x8192 : Shape := ⟨2, ![4096, 8192]⟩
abbrev S16384x8192 : Shape := ⟨2, ![16384, 8192]⟩
abbrev S1x8192 : Shape := ⟨2, ![1, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x8192, .f32⟩
  | .hbm, ⟨2, _⟩ => ⟨S8192, .f32⟩
  | .hbm, ⟨3, _⟩ => ⟨S16384x4096, .f32⟩
  | .hbm, ⟨4, _⟩ => ⟨S1x4096x8192, .f32⟩
  | .hbm, ⟨5, _⟩ => ⟨S4096x8192, .f32⟩
  | .hbm, ⟨6, _⟩ => ⟨S16384x8192, .f32⟩
  | .hbm, ⟨7, _⟩ => ⟨S1x8192, .f32⟩
  | .hbm, ⟨8, _⟩ => ⟨S16384x8192, .f32⟩
  | .hbm, ⟨9, _⟩ => ⟨S16384x8192, .f32⟩
  | .hbm, ⟨10, _⟩ => ⟨S16384x8192, .f32⟩
  | .hbm, ⟨11, _⟩ => ⟨S16384x8192, .f32⟩
  | .hbm, ⟨12, _⟩ => ⟨S_, .f32⟩
  | .hbm, ⟨13, _⟩ => ⟨S16384x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S16384x4096 : Shape := ⟨2, ![16384, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S1x4096x4096, .f32⟩
  | .hbm, ⟨4, _⟩ => ⟨S4096x4096, .f32⟩
  | .hbm, ⟨5, _⟩ => ⟨S16384x4096, .f32⟩
  | .hbm, ⟨6, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S16384x2048 : Shape := ⟨2, ![16384, 2048]⟩
abbrev S4x2048x1024 : Shape := ⟨3, ![4, 2048, 1024]⟩
abbrev S16384x4096 : Shape := ⟨2, ![16384, 4096]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S4x2048x1024, .bf16⟩
  | .hbm, ⟨2, _⟩ => ⟨S16384x4096, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .f32⟩
  | .local _ .vmem, ⟨5, _⟩ => ⟨S2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16384x2048 : Shape := ⟨2, ![16384, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x1024, .bf16⟩
  | .hbm, ⟨2, _⟩ => ⟨S16384x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S16384x2048 : Shape := ⟨2, ![16384, 2048]⟩
abbrev S4x2048x1024 : Shape := ⟨3, ![4, 2048, 1024]⟩
abbrev S16384x8192 : Shape := ⟨2, ![16384, 8192]⟩
abbrev S16384x4096 : Shape := ⟨2, ![16384, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S128x2048 : Shape := ⟨2, ![128, 2048]⟩
abbrev S128x1024 : Shape := ⟨2, ![128, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S4x2048x1024, .bf16⟩
  | .hbm, ⟨2, _⟩ => ⟨S16384x8192, .bf16⟩
  | .hbm, ⟨3, _⟩ => ⟨S16384x4096, .f32⟩
  | .hbm, ⟨4, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S16384x2048 : Shape := ⟨2, ![16384, 2048]⟩
abbrev S4x2048x1024 : Shape := ⟨3, ![4, 2048, 1024]⟩
abbrev S16384x8192 : Shape := ⟨2, ![16384, 8192]⟩
abbrev S16384x4096 : Shape := ⟨2, ![16384, 4096]⟩
abbrev S2048x4x1024 : Shape := ⟨3, ![2048, 4, 1024]⟩
abbrev S2048x4096 : Shape := ⟨2, ![2048, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S4x2048x1024, .bf16⟩
  | .hbm, ⟨2, _⟩ => ⟨S16384x8192, .bf16⟩
  | .hbm, ⟨3, _⟩ => ⟨S16384x4096, .f32⟩
  | .hbm, ⟨4, _⟩ => ⟨S16384x2048, .f32⟩
  | .hbm, ⟨5, _⟩ => ⟨S4x2048x1024, .f32⟩
  | .hbm, ⟨6, _⟩ => ⟨S2048x4x1024, .f32⟩
  | .hbm, ⟨7, _⟩ => ⟨S2048x4096, .f32⟩
  | .hbm, ⟨8, _⟩ => ⟨S16384x4096, .f32⟩
  | .hbm, ⟨9, _⟩ => ⟨S16384x4096, .bf16⟩
  | .hbm, ⟨10, _⟩ => ⟨S16384x4096, .f32⟩
  | .hbm, ⟨11, _⟩ => ⟨S16384x4096, .bf16⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel9.lean ====
abbrev S16384x4096 : Shape := ⟨2, ![16384, 4096]⟩
abbrev S1x4096x1024 : Shape := ⟨3, ![1, 4096, 1024]⟩
abbrev S16384x1024 : Shape := ⟨2, ![16384, 1024]⟩
abbrev S1024x4096 : Shape := ⟨2, ![1024, 4096]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1x4096x1024, .bf16⟩
  | .hbm, ⟨2, _⟩ => ⟨S16384x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1024x1024, .bf16⟩
  | .local _ .vmem, ⟨4, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S16384x4096 : Shape := ⟨2, ![16384, 4096]⟩
abbrev S1x4096x1024 : Shape := ⟨3, ![1, 4096, 1024]⟩
abbrev S4096x1024 : Shape := ⟨2, ![4096, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x1024, .bf16⟩
  | .hbm, ⟨2, _⟩ => ⟨S16384x4096, .f32⟩
  | .hbm, ⟨3, _⟩ => ⟨S4096x1024, .bf16⟩
  | .hbm, ⟨4, _⟩ => ⟨S4096x1024, .f32⟩
  | .hbm, ⟨5, _⟩ => ⟨S16384x1024, .f32⟩
  | .hbm, ⟨6, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S512x4096 : Shape := ⟨2, ![512, 4096]⟩
abbrev S2x4096x2048 : Shape := ⟨3, ![2, 4096, 2048]⟩
abbrev S512x2048 : Shape := ⟨2, ![512, 2048]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S2x4096x2048, .f32⟩
  | .hbm, ⟨2, _⟩ => ⟨S512x2048, .bf16⟩
  | .local _ .vmem, ⟨0, _⟩ => ⟨S512x4096, .bf16⟩
  | .local _ .vmem, ⟨1, _⟩ => ⟨S1x4096x512, .f32⟩
  | .local _ .vmem, ⟨2, _⟩ => ⟨S1x4096x512, .f32⟩
  | .local _ .vmem, ⟨3, _⟩ => ⟨S512x512, .bf16⟩
  | .local _ .vmem, ⟨4, _⟩ => ⟨S512x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S512x4096 : Shape := ⟨2, ![512, 4096]⟩
abbrev S2x4096x2048 : Shape := ⟨3, ![2, 4096, 2048]⟩
abbrev S1x4096x2048 : Shape := ⟨3, ![1, 4096, 2048]⟩
abbrev S4096x2048 : Shape := ⟨2, ![4096, 2048]⟩
abbrev S512x2048 : Shape := ⟨2, ![512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S2x4096x2048, .f32⟩
  | .hbm, ⟨2, _⟩ => ⟨S512x4096, .f32⟩
  | .hbm, ⟨3, _⟩ => ⟨S1x4096x2048, .f32⟩
  | .hbm, ⟨4, _⟩ => ⟨S4096x2048, .f32⟩
  | .hbm, ⟨5, _⟩ => ⟨S512x2048, .f32⟩
  | .hbm, ⟨6, _⟩ => ⟨S512x2048, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S16384x1024 : Shape := ⟨2, ![16384, 1024]⟩
abbrev S512x2048 : Shape := ⟨2, ![512, 2048]⟩
abbrev S1x1024x4096 : Shape := ⟨3, ![1, 1024, 4096]⟩
abbrev S16384x4096 : Shape := ⟨2, ![16384, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩
abbrev S128x1024 : Shape := ⟨2, ![128, 1024]⟩
abbrev S1024x4096 : Shape := ⟨2, ![1024, 4096]⟩
abbrev S128x4096 : Shape := ⟨2, ![128, 4096]⟩
abbrev S128 : Shape := ⟨1, ![128]⟩
abbrev S128x1 : Shape := ⟨2, ![128, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S512x2048, .bf16⟩
  | .hbm, ⟨2, _⟩ => ⟨S1x1024x4096, .bf16⟩
  | .hbm, ⟨3, _⟩ => ⟨S16384x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S16384x4096, .f32⟩
  | .hbm, ⟨9, _⟩ => ⟨S16384x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024x4096, .bf16⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S16384x1024 : Shape := ⟨2, ![16384, 1024]⟩
abbrev S512x2048 : Shape := ⟨2, ![512, 2048]⟩
abbrev S1x1024x4096 : Shape := ⟨3, ![1, 1024, 4096]⟩
abbrev S16384x4096 : Shape := ⟨2, ![16384, 4096]⟩
abbrev S4096 : Shape := ⟨1, ![4096]⟩
abbrev S2x8192x4x256 : Shape := ⟨4, ![2, 8192, 4, 256]⟩
abbrev S512x1024 : Shape := ⟨2, ![512, 1024]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S1024x4096 : Shape := ⟨2, ![1024, 4096]⟩
abbrev S16384 : Shape := ⟨1, ![16384]⟩
abbrev S16384x1 : Shape := ⟨2, ![16384, 1]⟩
abbrev S1x4096 : Shape := ⟨2, ![1, 4096]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x2048, .bf16⟩
  | .hbm, ⟨2, _⟩ => ⟨S1x1024x4096, .bf16⟩
  | .hbm, ⟨3, _⟩ => ⟨S16384x4096, .f32⟩
  | .hbm, ⟨4, _⟩ => ⟨S4096, .f32⟩
  | .hbm, ⟨5, _⟩ => ⟨S4096, .f32⟩
  | .hbm, ⟨6, _⟩ => ⟨S16384x1024, .f32⟩
  | .hbm, ⟨7, _⟩ => ⟨S2x8192x4x256, .f32⟩
  | .hbm, ⟨8, _⟩ => ⟨S512x2048, .f32⟩
  | .hbm, ⟨9, _⟩ => ⟨S512x1024, .f32⟩
  | .hbm, ⟨10, _⟩ => ⟨S512x1024, .f32⟩
  | .hbm, ⟨11, _⟩ => ⟨S2x256x4x256, .f32⟩
  | .hbm, ⟨12, _⟩ => ⟨S2x256x4x256, .f32⟩
  | .hbm, ⟨13, _⟩ => ⟨S2x4x8192x256, .f32⟩
  | .hbm, ⟨14, _⟩ => ⟨S_, .f32⟩
  | .hbm, ⟨15, _⟩ => ⟨S2x4x8192x256, .f32⟩
  | .hbm, ⟨16, _⟩ => ⟨S2x4x8192x256, .f32⟩
  | .hbm, ⟨17, _⟩ => ⟨S_, .f32⟩
  | .hbm, ⟨18, _⟩ => ⟨S2x4x8192, .f32⟩
  | .hbm, ⟨19, _⟩ => ⟨S_, .f32⟩
  | .hbm, ⟨20, _⟩ => ⟨S2x4x8192, .f32⟩
  | .hbm, ⟨21, _⟩ => ⟨S2x4x8192, .f32⟩
  | .hbm, ⟨22, _⟩ => ⟨S2x4x8192x1, .f32⟩
  | .hbm, ⟨23, _⟩ => ⟨S2x4x8192x256, .f32⟩
  | .hbm, ⟨24, _⟩ => ⟨S2x4x8192x256, .f32⟩
  | .hbm, ⟨25, _⟩ => ⟨S2x4x8192x256, .f32⟩
  | .hbm, ⟨26, _⟩ => ⟨S_, .f32⟩
  | .hbm, ⟨27, _⟩ => ⟨S2x4x8192, .f32⟩
  | .hbm, ⟨28, _⟩ => ⟨S2x4x8192x1, .f32⟩
  | .hbm, ⟨29, _⟩ => ⟨S2x4x8192x256, .f32⟩
  | .hbm, ⟨30, _⟩ => ⟨S2x4x8192x256, .f32⟩
  | .hbm, ⟨31, _⟩ => ⟨S2x4x256x8192, .f32⟩
  | .hbm, ⟨32, _⟩ => ⟨S2x8192x4x256, .f32⟩
  | .hbm, ⟨33, _⟩ => ⟨S16384x1024, .f32⟩
  | .hbm, ⟨34, _⟩ => ⟨S1024x4096, .bf16⟩
  | .hbm, ⟨35, _⟩ => ⟨S1024x4096, .f32⟩
  | .hbm, ⟨36, _⟩ => ⟨S16384x4096, .f32⟩
  | .hbm, ⟨37, _⟩ => ⟨S16384x4096, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x4096, .f32⟩
  | .hbm, ⟨49, _⟩ => ⟨S16384x4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x4096, .f32⟩
  | .hbm, ⟨66, _⟩ => ⟨S16384x4096, .f32⟩
  | .hbm, ⟨67, _⟩ => ⟨S1x4096, .f32⟩
  | .hbm, ⟨68, _⟩ => ⟨S16384x4096, .f32⟩
  | .hbm, ⟨69, _⟩ => ⟨S16384x4096, .f32⟩
  | .hbm, ⟨70, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel12.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S1x4096, .f32⟩
  | .hbm, ⟨4, _⟩ => ⟨S16384x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel13.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x4096, .f32⟩
  | .hbm, ⟨37, _⟩ => ⟨S16384x4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel14.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel15.lean ====
abbrev S16384x14336 : Shape := ⟨2, ![16384, 14336]⟩
abbrev S16384x16 : Shape := ⟨2, ![16384, 16]⟩
abbrev S16 : Shape := ⟨1, ![16]⟩
abbrev S4x2048 : Shape := ⟨2, ![4, 2048]⟩
abbrev S2048 : Shape := ⟨1, ![2048]⟩
abbrev S2x8192x16 : Shape := ⟨3, ![2, 8192, 16]⟩
abbrev S2x16x8192 : Shape := ⟨3, ![2, 16, 8192]⟩
abbrev S1x16 : Shape := ⟨2, ![1, 16]⟩
abbrev S16x1 : Shape := ⟨2, ![16, 1]⟩
abbrev S1x2048 : Shape := ⟨2, ![1, 2048]⟩
abbrev S16384x2048 : Shape := ⟨2, ![16384, 2048]⟩
abbrev S256x1024 : Shape := ⟨2, ![256, 1024]⟩
abbrev S256x2048 : Shape := ⟨2, ![256, 2048]⟩
abbrev S256x16 : Shape := ⟨2, ![256, 16]⟩
abbrev S1x16x256 : Shape := ⟨3, ![1, 16, 256]⟩
abbrev S8x128x256 : Shape := ⟨3, ![8, 128, 256]⟩
abbrev S8x128 : Shape := ⟨2, ![8, 128]⟩
abbrev S8x1024 : Shape := ⟨2, ![8, 1024]⟩
abbrev S4x1024 : Shape := ⟨2, ![4, 1024]⟩
abbrev S8x1 : Shape := ⟨2, ![8, 1]⟩
abbrev S1x1024 : Shape := ⟨2, ![1, 1024]⟩
abbrev S248x1024 : Shape := ⟨2, ![248, 1024]⟩
abbrev S16x256 : Shape := ⟨2, ![16, 256]⟩
abbrev S256x256 : Shape := ⟨2, ![256, 256]⟩
abbrev S256x128 : Shape := ⟨2, ![256, 128]⟩
abbrev S256x1 : Shape := ⟨2, ![256, 1]⟩
abbrev S1x256 : Shape := ⟨2, ![1, 256]⟩
abbrev S1x1 : Shape := ⟨2, ![1, 1]⟩
abbrev S1x128 : Shape := ⟨2, ![1, 128]⟩
abbrev S256 : Shape := ⟨1, ![256]⟩
abbrev S1x128x256 : Shape := ⟨3, ![1, 128, 256]⟩
abbrev S128x256 : Shape := ⟨2, ![128, 256]⟩
abbrev S1 : Shape := ⟨1, ![1]⟩
abbrev S128 : Shape := ⟨1, ![128]⟩

abbrev nBuf : Space → Nat
  | .hbm => 11
  | .vmem => 23
  | .smem => 0
  | _ => 0

abbrev bufTy : (tb : Table) → Fin (tcTables nBuf tb) → BufTy
  | .hbm, ⟨0, _⟩ => ⟨S16384x14336, .f32⟩
  | .hbm, ⟨1, _⟩ => ⟨S16384x16, .f32⟩
  | .hbm, ⟨2, _⟩ => ⟨S16, .f32⟩
  | .hbm, ⟨3, _⟩ => ⟨S4x2048, .f32⟩
  | .hbm, ⟨4, _⟩ => ⟨S2048, .f32⟩
  | .hbm, ⟨5, _⟩ => ⟨S2x8192x16, .f32⟩
  | .hbm, ⟨6, _⟩ => ⟨S2x16x8192, .f32⟩
  | .hbm, ⟨7, _⟩ => ⟨S1x16, .f32⟩
  | .hbm, ⟨8, _⟩ => ⟨S16x1, .f32⟩
  | .hbm, ⟨9, _⟩ => ⟨S1x2048, .f32⟩
  | .hbm, ⟨10, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x16, .f32⟩
  | .local _ .vmem, ⟨9, _⟩ => ⟨S256x16, .f32⟩
  | .local _ .vmem, ⟨10, _⟩ => ⟨S1x16x256, .f32⟩
  | .local _ .vmem, ⟨11, _⟩ => ⟨S1x16x256, .f32⟩
  | .local _ .vmem, ⟨12, _⟩ => ⟨S1x16, .f32⟩
  | .local _ .vmem, ⟨13, _⟩ => ⟨S16x1, .f32⟩
  | .local _ .vmem, ⟨14, _⟩ => ⟨S4x2048, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S8x128x256, .f32⟩
  | .local _ .vmem, ⟨19, _⟩ => ⟨S8x128, .f32⟩
  | .local _ .vmem, ⟨20, _⟩ => ⟨S8x128, .f32⟩
  | .local _ .vmem, ⟨21, _⟩ => ⟨S8x1024, .f32⟩
  | .local _ .vmem, ⟨22, _⟩ => ⟨S8x1024, .f32⟩
  | _, _ => ⟨S16384x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference15Ideal.lean ====
abbrev S16384x14336 : Shape := ⟨2, ![16384, 14336]⟩
abbrev S16384x16 : Shape := ⟨2, ![16384, 16]⟩
abbrev S16 : Shape := ⟨1, ![16]⟩
abbrev S4x2048 : Shape := ⟨2, ![4, 2048]⟩
abbrev S2048 : Shape := ⟨1, ![2048]⟩
abbrev S16384x2048 : Shape := ⟨2, ![16384, 2048]⟩
abbrev S2x8192x2048 : Shape := ⟨3, ![2, 8192, 2048]⟩
abbrev S_ : Shape := ⟨0, ![]⟩
abbrev S2x8195x2048 : Shape := ⟨3, ![2, 8195, 2048]⟩
abbrev S1x2048 : Shape := ⟨2, ![1, 2048]⟩
abbrev S1x1x2048 : Shape := ⟨3, ![1, 1, 2048]⟩
abbrev S2x8192x1024 : Shape := ⟨3, ![2, 8192, 1024]⟩
abbrev S2x8192x8x128 : Shape := ⟨4, ![2, 8192, 8, 128]⟩
abbrev S2x8192x8x256 : Shape := ⟨4, ![2, 8192, 8, 256]⟩
abbrev S2x8192x16 : Shape := ⟨3, ![2, 8192, 16]⟩
abbrev S1x1x16 : Shape := ⟨3, ![1, 1, 16]⟩
abbrev S2x8192x8 : Shape := ⟨3, ![2, 8192, 8]⟩
abbrev S64x64 : Shape := ⟨2, ![64, 64]⟩
abbrev S2x8x128x256 : Shape := ⟨4, ![2, 8, 128, 256]⟩
abbrev S2x8x128 : Shape := ⟨3, ![2, 8, 128]⟩
abbrev S2x8 : Shape := ⟨2, ![2, 8]⟩
abbrev S2x128x64x8x128 : Shape := ⟨5, ![2, 128, 64, 8, 128]⟩
abbrev S128x2x64x8x128 : Shape := ⟨5, ![128, 2, 64, 8, 128]⟩
abbrev S2x128x64x8x256 : Shape := ⟨5, ![2, 128, 64, 8, 256]⟩
abbrev S128x2x64x8x256 : Shape := ⟨5, ![128, 2, 64, 8, 256]⟩
abbrev S2x128x64x8 : Shape := ⟨4, ![2, 128, 64, 8]⟩
abbrev S128x2x64x8 : Shape := ⟨4, ![128, 2, 64, 8]⟩
abbrev S1x2x64x8x128 : Shape := ⟨5, ![1, 2, 64, 8, 128]⟩
abbrev S2x64x8x128 : Shape := ⟨4, ![2, 64, 8, 128]⟩
abbrev S1x2x64x8x256 : Shape := ⟨5, ![1, 2, 64, 8, 256]⟩
abbrev S2x64x8x256 : Shape := ⟨4, ![2, 64, 8, 256]⟩
abbrev S1x2x64x8 : Shape := ⟨4, ![1, 2, 64, 8]⟩
abbrev S2x64x8 : Shape := ⟨3, ![2, 64, 8]⟩
abbrev S2x8x64 : Shape := ⟨3, ![2, 8, 64]⟩
abbrev S2x8x1 : Shape := ⟨3, ![2, 8, 1]⟩
abbrev S2x8x64x1 : Shape := ⟨4, ![2, 8, 64, 1]⟩
abbrev S2x8x1x64 : Shape := ⟨4, ![2, 8, 1, 64]⟩
abbrev S2x8x64x64 : Shape := ⟨4, ![2, 8, 64, 64]⟩
abbrev S2x8x256x64 : Shape := ⟨4, ![2, 8, 256, 64]⟩
abbrev S2x64x8x1 : Shape := ⟨4, ![2, 64, 8, 1]⟩
abbrev S2x8x1x1 : Shape := ⟨4, ![2, 8, 1, 1]⟩
abbrev S2x8192x8x1 : Shape := ⟨4, ![2, 8192, 8, 1]⟩

abbrev nBuf : Space → Nat
  | .hbm => 276
  | .vmem => 0
  | .smem => 0
  | _ => 0

abbrev hbmTy0_0 (i : Nat) : BufTy := match i % 128 with
  | 0 => ⟨S16384x14336, .f32⟩
  | 1 => ⟨S16384x16, .f32⟩
  | 2 => ⟨S16, .f32⟩
  | 3 => ⟨S4x2048, .f32⟩
  | 4 => ⟨S2048, .f32⟩
  | 5 => ⟨S16384x2048, .f32⟩
  | 6 => ⟨S2x8192x2048, .f32⟩
  | 7 => ⟨S_, .i32⟩
  | 8 => ⟨S_, .f32⟩
  | 9 => ⟨S2x8195x2048, .f32⟩
  | 10 => ⟨S2x8192x2048, .f32⟩
  | 11 => ⟨S1x2048, .f32⟩
  | 12 => ⟨S2048, .f32⟩
  | 13 => ⟨S1x1x2048, .f32⟩
  | 14 => ⟨S2x8192x2048, .f32⟩
  | 15 => ⟨S2x8192x2048, .f32⟩
  | 16 => ⟨S_, .f32⟩
  | 17 => ⟨S2x8192x2048, .f32⟩
  | 18 => ⟨S2x8192x2048, .f32⟩
  | 19 => ⟨S2x8192x2048, .f32⟩
  | 20 => ⟨S1x2048, .f32⟩
  | 21 => ⟨S2048, .f32⟩
  | 22 => ⟨S1x1x2048, .f32⟩
  | 23 => ⟨S2x8192x2048, .f32⟩
  | 24 => ⟨S2x8192x2048, .f32⟩
  | 25 => ⟨S2x8192x2048, .f32⟩
  | 26 => ⟨S2x8192x2048, .f32⟩
  | 27 => ⟨S1x2048, .f32⟩
  | 28 => ⟨S2048, .f32⟩
  | 29 => ⟨S1x1x2048, .f32⟩
  | 30 => ⟨S2x8192x2048, .f32⟩
  | 31 => ⟨S2x8192x2048, .f32⟩
  | 32 => ⟨S2x8192x2048, .f32⟩
  | 33 => ⟨S2x8192x2048, .f32⟩
  | 34 => ⟨S1x2048, .f32⟩
  | 35 => ⟨S2048, .f32⟩
  | 36 => ⟨S1x1x2048, .f32⟩
  | 37 => ⟨S2x8192x2048, .f32⟩
  | 38 => ⟨S2x8192x2048, .f32⟩
  | 39 => ⟨S2x8192x2048, .f32⟩
  | 40 => ⟨S2x8192x2048, .f32⟩
  | 41 => ⟨S2x8192x2048, .f32⟩
  | 42 => ⟨S_, .f32⟩
  | 43 => ⟨S2x8192x2048, .f32⟩
  | 44 => ⟨S2x8192x2048, .f32⟩
  | 45 => ⟨S_, .f32⟩
  | 46 => ⟨S2x8192x2048, .f32⟩
  | 47 => ⟨S2x8192x2048, .f32⟩
  | 48 => ⟨S2x8192x2048, .f32⟩
  | 49 => ⟨S2x8192x1024, .f32⟩
  | 50 => ⟨S2x8192x8x128, .f32⟩
  | 51 => ⟨S_, .f32⟩
  | 52 => ⟨S2x8192x8x128, .f32⟩
  | 53 => ⟨S2x8192x8x128, .f32⟩
  | 54 => ⟨S2x8192x1024, .f32⟩
  | 55 => ⟨S2x8192x8x128, .f32⟩
  | 56 => ⟨S16384x2048, .f32⟩
  | 57 => ⟨S2x8192x8x256, .f32⟩
  | 58 => ⟨S2x8192x16, .f32⟩
  | 59 => ⟨S1x1x16, .f32⟩
  | 60 => ⟨S2x8192x16, .f32⟩
  | 61 => ⟨S2x8192x16, .f32⟩
  | 62 => ⟨S2x8192x8, .f32⟩
  | 63 => ⟨S2x8192x8, .f32⟩
  | 64 => ⟨S2x8192x8, .f32⟩
  | 65 => ⟨S_, .f32⟩
  | 66 => ⟨S2x8192x8, .f32⟩
  | 67 => ⟨S2x8192x8, .f32⟩
  | 68 => ⟨S2x8192x8, .f32⟩
  | 69 => ⟨S2x8192x8, .f32⟩
  | 70 => ⟨S2x8192x8, .i1⟩
  | 71 => ⟨S2x8192x8, .f32⟩
  | 72 => ⟨S2x8192x8, .f32⟩
  | 73 => ⟨S2x8192x8, .f32⟩
  | 74 => ⟨S2x8192x8, .f32⟩
  | 75 => ⟨S2x8192x8, .f32⟩
  | 76 => ⟨S2x8192x8, .f32⟩
  | 77 => ⟨S2x8192x8, .f32⟩
  | 78 => ⟨S2x8192x8, .f32⟩
  | 79 => ⟨S2x8192x8, .f32⟩
  | 80 => ⟨S_, .i1⟩
  | 81 => ⟨S64x64, .i1⟩
  | 82 => ⟨S64x64, .i32⟩
  | 83 => ⟨S_, .i32⟩
  | 84 => ⟨S64x64, .i32⟩
  | 85 => ⟨S64x64, .i32⟩
  | 86 => ⟨S64x64, .i32⟩
  | 87 => ⟨S64x64, .i1⟩
  | 88 => ⟨S_, .i1⟩
  | 89 => ⟨S64x64, .i1⟩
  | 90 => ⟨S64x64, .i1⟩
  | 91 => ⟨S_, .f32⟩
  | 92 => ⟨S2x8x128x256, .f32⟩
  | 93 => ⟨S_, .f32⟩
  | 94 => ⟨S2x8x128, .f32⟩
  | 95 => ⟨S_, .f32⟩
  | 96 => ⟨S2x8, .f32⟩
  | 97 => ⟨S2x128x64x8x128, .f32⟩
  | 98 => ⟨S128x2x64x8x128, .f32⟩
  | 99 => ⟨S2x128x64x8x128, .f32⟩
  | 100 => ⟨S128x2x64x8x128, .f32⟩
  | 101 => ⟨S2x128x64x8x256, .f32⟩
  | 102 => ⟨S128x2x64x8x256, .f32⟩
  | 103 => ⟨S2x128x64x8, .f32⟩
  | 104 => ⟨S128x2x64x8, .f32⟩
  | 105 => ⟨S2x128x64x8, .f32⟩
  | 106 => ⟨S128x2x64x8, .f32⟩
  | 107 => ⟨S_, .f32⟩
  | 108 => ⟨S128x2x64x8x256, .f32⟩
  | 109 => ⟨S_, .i32⟩
  | 110 => ⟨S128x2x64x8x128, .f32⟩
  | 111 => ⟨S128x2x64x8x128, .f32⟩
  | 112 => ⟨S128x2x64x8x256, .f32⟩
  | 113 => ⟨S128x2x64x8, .f32⟩
  | 114 => ⟨S128x2x64x8, .f32⟩
  | 115 => ⟨S64x64, .i1⟩
  | 116 => ⟨S_, .i32⟩
  | 117 => ⟨S2x8x128x256, .f32⟩
  | 118 => ⟨S2x8x128, .f32⟩
  | 119 => ⟨S2x8, .f32⟩
  | 120 => ⟨S128x2x64x8x256, .f32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S1x2x64x8x128, .f32⟩
  | _ => ⟨S16384x14336, .f32⟩

abbrev hbmTy0_1 (i : Nat) : BufTy := match i % 128 with
  | 0 => ⟨S2x64x8x128, .f32⟩
  | 1 => ⟨S_, .i32⟩
  | 2 => ⟨S_, .i32⟩
  | 3 => ⟨S_, .i32⟩
  | 4 => ⟨S_, .i32⟩
  | 5 => ⟨S1x2x64x8x128, .f32⟩
  | 6 => ⟨S2x64x8x128, .f32⟩
  | 7 => ⟨S_, .i32⟩
  | 8 => ⟨S_, .i32⟩
  | 9 => ⟨S_, .i32⟩
  | 10 => ⟨S_, .i32⟩
  | 11 => ⟨S1x2x64x8x256, .f32⟩
  | 12 => ⟨S2x64x8x256, .f32⟩
  | 13 => ⟨S_, .i32⟩
  | 14 => ⟨S_, .i32⟩
  | 15 => ⟨S_, .i32⟩
  | 16 => ⟨S1x2x64x8, .f32⟩
  | 17 => ⟨S2x64x8, .f32⟩
  | 18 => ⟨S_, .i32⟩
  | 19 => ⟨S_, .i32⟩
  | 20 => ⟨S_, .i32⟩
  | 21 => ⟨S1x2x64x8, .f32⟩
  | 22 => ⟨S2x64x8, .f32⟩
  | 23 => ⟨S_, .f32⟩
  | 24 => ⟨S_, .f32⟩
  | 25 => ⟨S2x64x8, .f32⟩
  | 26 => ⟨S2x8x64, .f32⟩
  | 27 => ⟨S2x8x64, .f32⟩
  | 28 => ⟨S2x8x1, .f32⟩
  | 29 => ⟨S2x8, .f32⟩
  | 30 => ⟨S2x8x64x1, .f32⟩
  | 31 => ⟨S2x8x1x64, .f32⟩
  | 32 => ⟨S2x8x64x64, .f32⟩
  | 33 => ⟨S2x8x64x64, .f32⟩
  | 34 => ⟨S2x8x64x64, .f32⟩
  | 35 => ⟨S2x8x1x64, .f32⟩
  | 36 => ⟨S2x8x64x64, .f32⟩
  | 37 => ⟨S2x8x64x64, .f32⟩
  | 38 => ⟨S_, .f32⟩
  | 39 => ⟨S_, .f32⟩
  | 40 => ⟨S2x8x64x64, .i1⟩
  | 41 => ⟨S2x8x64x64, .f32⟩
  | 42 => ⟨S2x8x64x64, .f32⟩
  | 43 => ⟨S2x8x1, .f32⟩
  | 44 => ⟨S2x8x64, .f32⟩
  | 45 => ⟨S2x8x64, .f32⟩
  | 46 => ⟨S_, .f32⟩
  | 47 => ⟨S2x8x64, .f32⟩
  | 48 => ⟨S2x8x64, .f32⟩
  | 49 => ⟨S2x8x64x1, .f32⟩
  | 50 => ⟨S2x8x64x64, .f32⟩
  | 51 => ⟨S2x8x64x64, .f32⟩
  | 52 => ⟨S2x8x64x64, .f32⟩
  | 53 => ⟨S2x8x64, .f32⟩
  | 54 => ⟨S2x8x64, .f32⟩
  | 55 => ⟨S2x8x64x64, .f32⟩
  | 56 => ⟨S2x8x64x64, .f32⟩
  | 57 => ⟨S2x8x256x64, .f32⟩
  | 58 => ⟨S2x64x8x256, .f32⟩
  | 59 => ⟨S2x64x8, .f32⟩
  | 60 => ⟨S2x64x8x1, .f32⟩
  | 61 => ⟨S2x8x256x64, .f32⟩
  | 62 => ⟨S2x64x8x256, .f32⟩
  | 63 => ⟨S2x64x8x256, .f32⟩
  | 64 => ⟨S2x64x8x256, .f32⟩
  | 65 => ⟨S2x64x8x256, .f32⟩
  | 66 => ⟨S_, .f32⟩
  | 67 => ⟨S2x8x64, .f32⟩
  | 68 => ⟨S2x8x64, .f32⟩
  | 69 => ⟨S2x8x64, .f32⟩
  | 70 => ⟨S2x8x64, .f32⟩
  | 71 => ⟨S2x8x64, .f32⟩
  | 72 => ⟨S2x8x64, .f32⟩
  | 73 => ⟨S2x8x64, .f32⟩
  | 74 => ⟨S2x8x64, .f32⟩
  | 75 => ⟨S2x64x8, .f32⟩
  | 76 => ⟨S2x64x8x1, .f32⟩
  | 77 => ⟨S2x64x8x256, .f32⟩
  | 78 => ⟨S2x64x8x256, .f32⟩
  | 79 => ⟨S2x8x1, .f32⟩
  | 80 => ⟨S2x8x64, .f32⟩
  | 81 => ⟨S2x8x64, .f32⟩
  | 82 => ⟨S2x8x64, .f32⟩
  | 83 => ⟨S2x8, .f32⟩
  | 84 => ⟨S_, .f32⟩
  | 85 => ⟨S2x8, .f32⟩
  | 86 => ⟨S2x8, .f32⟩
  | 87 => ⟨S2x8x1, .f32⟩
  | 88 => ⟨S2x8x64, .f32⟩
  | 89 => ⟨S2x8x64, .f32⟩
  | 90 => ⟨S2x8x64, .f32⟩
  | 91 => ⟨S2x8, .f32⟩
  | 92 => ⟨S2x8, .f32⟩
  | 93 => ⟨S2x8, .f32⟩
  | 94 => ⟨S2x8x1x1, .f32⟩
  | 95 => ⟨S2x8x128x256, .f32⟩
  | 96 => ⟨S2x8x128x256, .f32⟩
  | 97 => ⟨S2x64x8, .f32⟩
  | 98 => ⟨S2x64x8x1, .f32⟩
  | 99 => ⟨S2x64x8x128, .f32⟩
  | 100 => ⟨S2x64x8x128, .f32⟩
  | 101 => ⟨S2x8x128x256, .f32⟩
  | 102 => ⟨S2x8x128x256, .f32⟩
  | 103 => ⟨S2x8x1, .f32⟩
  | 104 => ⟨S2x8x128, .f32⟩
  | 105 => ⟨S2x8x128, .f32⟩
  | 106 => ⟨S2x8x128, .f32⟩
  | 107 => ⟨S2x8x128, .f32⟩
  | 108 => ⟨S1x2x64x8x256, .f32⟩
  | 109 => ⟨S_, .i32⟩
  | 110 => ⟨S_, .i32⟩
  | 111 => ⟨S_, .i32⟩
  | 112 => ⟨S_, .i32⟩
  | 113 => ⟨S128x2x64x8x256, .f32⟩
  | 114 => ⟨S_, .i32⟩
  | 115 => ⟨S_, .i32⟩
  | 116 => ⟨S2x128x64x8x256, .f32⟩
  | 117 => ⟨S2x8192x8x256, .f32⟩
  | 118 => ⟨S2x8192x8x256, .f32⟩
  | 119 => ⟨S_, .f32⟩
  | 120 => ⟨S2x8192x8, .f32⟩
  | 121 => ⟨S2x8192x8x1, .f32⟩
  | 122 => ⟨S_, .f32⟩
  | 123 => ⟨S2x8192x8x1, .f32⟩
  | 124 => ⟨S2x8192x8x1, .f32⟩
  | 125 => ⟨S_, .f32⟩
  | 126 => ⟨S2x8192x8x1, .f32⟩
  | 127 => ⟨S2x8192x8x1, .f32⟩
  | _ => ⟨S16384x14336, .f32⟩

abbrev hbmTy0_2 (i : Nat) : BufTy := match i % 128 with
  | 0 => ⟨S2x8192x8x1, .f32⟩
  | 1 => ⟨S2x8192x8x256, .f32⟩
  | 2 => ⟨S2x8192x8x256, .f32⟩
  | 3 => ⟨S2x8192x2048, .f32⟩
  | 4 => ⟨S1x1x2048, .f32⟩
  | 5 => ⟨S2x8192x2048, .f32⟩
  | 6 => ⟨S2x8192x2048, .f32⟩
  | 7 => ⟨S16384x2048, .f32⟩
  | 8 => ⟨S2x8192x2048, .f32⟩
  | 9 => ⟨S2x8192x2048, .f32⟩
  | 10 => ⟨S2x8192x2048, .f32⟩
  | 11 => ⟨S_, .f32⟩
  | 12 => ⟨S2x8192x2048, .f32⟩
  | 13 => ⟨S2x8192x2048, .f32⟩
  | 14 => ⟨S_, .f32⟩
  | 15 => ⟨S2x8192x2048, .f32⟩
  | 16 => ⟨S2x8192x2048, .f32⟩
  | 17 => ⟨S2x8192x2048, .f32⟩
  | 18 => ⟨S16384x2048, .f32⟩
  | 19 => ⟨S16384x2048, .bf16⟩
  | _ => ⟨S16384x14336, .f32⟩

abbrev hbmTy (i : Nat) : BufTy := match i / 128 with
  | 0 => hbmTy0_0 i
  | 1 => hbmTy0_1 i
  | 2 => hbmTy0_2 i
  | _ => ⟨S16384x14336, .f32⟩

abbrev bufTy : (tb : Table) → Fin (tcTables nBuf tb) → BufTy
  | .hbm, ⟨i, _⟩ => hbmTy i
  | _, _ => ⟨S16384x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call2_v0 : Ref sig .tc := ⟨.hbm, 64, rfl⟩
abbrev main_call2_call0_cst : Ref sig .tc := ⟨.hbm, 65, rfl⟩
abbrev main_call2_call0_v0 : Ref sig .tc := ⟨.hbm, 66, rfl⟩
abbrev main_call2_call0_v1 : Ref sig .tc := ⟨.hbm, 67, rfl⟩
abbrev main_call2_call0_v2 : Ref sig .tc := ⟨.hbm, 68, rfl⟩
abbrev main_call2_call0_v3 : Ref sig .tc := ⟨.hbm, 69, rfl⟩
abbrev main_call2_call0_v4 : Ref sig .tc := ⟨.hbm, 70, rfl⟩
abbrev main_call2_call0_v5 : Ref sig .tc := ⟨.hbm, 71, rfl⟩
abbrev main_call2_call0_v6 : Ref sig .tc := ⟨.hbm, 72, rfl⟩
abbrev main_call2_call0_v7 : Ref sig .tc := ⟨.hbm, 73, rfl⟩
abbrev main_call2_call0_v8 : Ref sig .tc := ⟨.hbm, 74, rfl⟩
abbrev main_call2_call0_v9 : Ref sig .tc := ⟨.hbm, 75, rfl⟩
abbrev main_call2_call0_v10 : Ref sig .tc := ⟨.hbm, 76, rfl⟩
abbrev main_call2_call0_v11 : Ref sig .tc := ⟨.hbm, 77, rfl⟩
abbrev main_call2_v1 : Ref sig .tc := ⟨.hbm, 78, rfl⟩
abbrev main_v47 : Ref sig .tc := ⟨.hbm, 79, rfl⟩
abbrev main_c_1 : Ref sig .tc := ⟨.hbm, 80, rfl⟩
abbrev main_v48 : Ref sig .tc := ⟨.hbm, 81, rfl⟩
abbrev main_call3_v0 : Ref sig .tc := ⟨.hbm, 82, rfl⟩
abbrev main_call3_c : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_0 : Ref sig .tc := ⟨.hbm, 88, rfl⟩
abbrev main_call3_v5 : Ref sig .tc := ⟨.hbm, 89, rfl⟩
abbrev main_v49 : Ref sig .tc := ⟨.hbm, 90, rfl⟩
abbrev main_cst_2 : Ref sig .tc := ⟨.hbm, 91, rfl⟩
abbrev main_v50 : Ref sig .tc := ⟨.hbm, 92, rfl⟩
abbrev main_cst_3 : Ref sig .tc := ⟨.hbm, 93, rfl⟩
abbrev main_v51 : Ref sig .tc := ⟨.hbm, 94, rfl⟩
abbrev main_cst_4 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_5 : Ref sig .tc := ⟨.hbm, 107, rfl⟩
abbrev main_v63 : Ref sig .tc := ⟨.hbm, 108, rfl⟩
abbrev main_c_6 : Ref sig .tc := ⟨.hbm, 109, rfl⟩
abbrev main_v64_0 : Ref sig .tc := ⟨.hbm, 110, rfl⟩
abbrev main_v64_1 : Ref sig .tc := ⟨.hbm, 111, rfl⟩
abbrev main_v64_2 : Ref sig .tc := ⟨.hbm, 112, rfl⟩
abbrev main_v64_3 : Ref sig .tc := ⟨.hbm, 113, rfl⟩
abbrev main_v64_4 : Ref sig .tc := ⟨.hbm, 114, rfl⟩
abbrev main_v64_5 : Ref sig .tc := ⟨.hbm, 115, rfl⟩
abbrev main_v64_6 : Ref sig .tc := ⟨.hbm, 116, rfl⟩
abbrev main_v64_7 : Ref sig .tc := ⟨.hbm, 117, rfl⟩
abbrev main_v64_8 : Ref sig .tc := ⟨.hbm, 118, rfl⟩
abbrev main_v64_9 : Ref sig .tc := ⟨.hbm, 119, rfl⟩
abbrev main_v64_10 : Ref sig .tc := ⟨.hbm, 120, rfl⟩
abbrev main_while0c_c_22 : Ref sig .tc := ⟨.hbm, 121, rfl⟩
abbrev main_while0c_v92 : Ref sig .tc := ⟨.hbm, 122, rfl⟩
abbrev main_while0b_call4_c : Ref sig .tc := ⟨.hbm, 123, rfl⟩
abbrev main_while0b_call4_c_0 : Ref sig .tc := ⟨.hbm, 124, rfl⟩
abbrev main_while0b_call4_c_1 : Ref sig .tc := ⟨.hbm, 125, rfl⟩
abbrev main_while0b_call4_c_2 : Ref sig .tc := ⟨.hbm, 126, rfl⟩
abbrev main_while0b_call4_v0 : Ref sig .tc := ⟨.hbm, 127, rfl⟩
abbrev main_while0b_v92 : Ref sig .tc := ⟨.hbm, 128, rfl⟩
abbrev main_while0b_call5_c : Ref sig .tc := ⟨.hbm, 129, rfl⟩
abbrev main_while0b_call5_c_0 : Ref sig .tc := ⟨.hbm, 130, rfl⟩
abbrev main_while0b_call5_c_1 : Ref sig .tc := ⟨.hbm, 131, rfl⟩
abbrev main_while0b_call5_c_2 : Ref sig .tc := ⟨.hbm, 132, rfl⟩
abbrev main_while0b_call5_v0 : Ref sig .tc := ⟨.hbm, 133, rfl⟩
abbrev main_while0b_v93 : Ref sig .tc := ⟨.hbm, 134, rfl⟩
abbrev main_while0b_call6_c : Ref sig .tc := ⟨.hbm, 135, rfl⟩
abbrev main_while0b_call6_c_0 : Ref sig .tc := ⟨.hbm, 136, rfl⟩
abbrev main_while0b_call6_c_1 : Ref sig .tc := ⟨.hbm, 137, rfl⟩
abbrev main_while0b_call6_c_2 : Ref sig .tc := ⟨.hbm, 138, rfl⟩
abbrev main_while0b_call6_v0 : Ref sig .tc := ⟨.hbm, 139, rfl⟩
abbrev main_while0b_v94 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_call7_c_1 : Ref sig .tc := ⟨.hbm, 143, rfl⟩
abbrev main_while0b_call7_v0 : Ref sig .tc := ⟨.hbm, 144, rfl⟩
abbrev main_while0b_v95 : Ref sig .tc := ⟨.hbm, 145, rfl⟩
abbrev main_while0b_call8_c : Ref sig .tc := ⟨.hbm, 146, rfl⟩
abbrev main_while0b_call8_c_0 : Ref sig .tc := ⟨.hbm, 147, rfl⟩
abbrev main_while0b_call8_c_1 : Ref sig .tc := ⟨.hbm, 148, rfl⟩
abbrev main_while0b_call8_v0 : Ref sig .tc := ⟨.hbm, 149, rfl⟩
abbrev main_while0b_v96 : Ref sig .tc := ⟨.hbm, 150, rfl⟩
abbrev main_while0b_call9_call0_cst : Ref sig .tc := ⟨.hbm, 151, rfl⟩
abbrev main_while0b_call9_call0_v0 : Ref sig .tc := ⟨.hbm, 152, rfl⟩
abbrev main_while0b_v97 : Ref sig .tc := ⟨.hbm, 153, rfl⟩
abbrev main_while0b_v98 : Ref sig .tc := ⟨.hbm, 154, rfl⟩
abbrev main_while0b_v99 : Ref sig .tc := ⟨.hbm, 155, rfl⟩
abbrev main_while0b_v100 : Ref sig .tc := ⟨.hbm, 156, rfl⟩
abbrev main_while0b_v101 : Ref sig .tc := ⟨.hbm, 157, rfl⟩
abbrev main_while0b_v102 : Ref sig .tc := ⟨.hbm, 158, rfl⟩
abbrev main_while0b_v103 : Ref sig .tc := ⟨.hbm, 159, rfl⟩
abbrev main_while0b_v104 : Ref sig .tc := ⟨.hbm, 160, rfl⟩
abbrev main_while0b_v105 : Ref sig .tc := ⟨.hbm, 161, rfl⟩
abbrev main_while0b_v106 : Ref sig .tc := ⟨.hbm, 162, rfl⟩
abbrev main_while0b_v107 : Ref sig .tc := ⟨.hbm, 163, rfl⟩
abbrev main_while0b_v108 : Ref sig .tc := ⟨.hbm, 164, rfl⟩
abbrev main_while0b_v109 : Ref sig .tc := ⟨.hbm, 165, rfl⟩
abbrev main_while0b_cst_22 : Ref sig .tc := ⟨.hbm, 166, rfl⟩
abbrev main_while0b_call10_v0 : Ref sig .tc := ⟨.hbm, 167, rfl⟩
abbrev main_while0b_call10_v1 : Ref sig .tc := ⟨.hbm, 168, rfl⟩
abbrev main_while0b_call10_v2 : Ref sig .tc := ⟨.hbm, 169, rfl⟩
abbrev main_while0b_v110 : Ref sig .tc := ⟨.hbm, 170, rfl⟩
abbrev main_while0b_v111 : Ref sig .tc := ⟨.hbm, 171, rfl⟩
abbrev main_while0b_v112 : Ref sig .tc := ⟨.hbm, 172, rfl⟩
abbrev main_while0b_v113 : Ref sig .tc := ⟨.hbm, 173, rfl⟩
abbrev main_while0b_cst_23 : Ref sig .tc := ⟨.hbm, 174, rfl⟩
abbrev main_while0b_v114 : Ref sig .tc := ⟨.hbm, 175, rfl⟩
abbrev main_while0b_v115 : Ref sig .tc := ⟨.hbm, 176, rfl⟩
abbrev main_while0b_v116 : Ref sig .tc := ⟨.hbm, 177, rfl⟩
abbrev main_while0b_v117 : Ref sig .tc := ⟨.hbm, 178, rfl⟩
abbrev main_while0b_v118 : Ref sig .tc := ⟨.hbm, 179, rfl⟩
abbrev main_while0b_v119 : Ref sig .tc := ⟨.hbm, 180, rfl⟩
abbrev main_while0b_v120 : Ref sig .tc := ⟨.hbm, 181, rfl⟩
abbrev main_while0b_v121 : Ref sig .tc := ⟨.hbm, 182, rfl⟩
abbrev main_while0b_v122 : Ref sig .tc := ⟨.hbm, 183, rfl⟩
abbrev main_while0b_v123 : Ref sig .tc := ⟨.hbm, 184, rfl⟩
abbrev main_while0b_v124 : Ref sig .tc := ⟨.hbm, 185, rfl⟩
abbrev main_while0b_v125 : Ref sig .tc := ⟨.hbm, 186, rfl⟩
abbrev main_while0b_v126 : Ref sig .tc := ⟨.hbm, 187, rfl⟩
abbrev main_while0b_v127 : Ref sig .tc := ⟨.hbm, 188, rfl⟩
abbrev main_while0b_v128 : Ref sig .tc := ⟨.hbm, 189, rfl⟩
abbrev main_while0b_v129 : Ref sig .tc := ⟨.hbm, 190, rfl⟩
abbrev main_while0b_v130 : Ref sig .tc := ⟨.hbm, 191, rfl⟩
abbrev main_while0b_v131 : Ref sig .tc := ⟨.hbm, 192, rfl⟩
abbrev main_while0b_v132 : Ref sig .tc := ⟨.hbm, 193, rfl⟩
abbrev main_while0b_cst_24 : Ref sig .tc := ⟨.hbm, 194, rfl⟩
abbrev main_while0b_v133 : Ref sig .tc := ⟨.hbm, 195, rfl⟩
abbrev main_while0b_v134 : Ref sig .tc := ⟨.hbm, 196, rfl⟩
abbrev main_while0b_v135 : Ref sig .tc := ⟨.hbm, 197, rfl⟩
abbrev main_while0b_v136 : Ref sig .tc := ⟨.hbm, 198, rfl⟩
abbrev main_while0b_v137 : Ref sig .tc := ⟨.hbm, 199, rfl⟩
abbrev main_while0b_v138 : Ref sig .tc := ⟨.hbm, 200, rfl⟩
abbrev main_while0b_v139 : Ref sig .tc := ⟨.hbm, 201, rfl⟩
abbrev main_while0b_v140 : Ref sig .tc := ⟨.hbm, 202, rfl⟩
abbrev main_while0b_v141 : Ref sig .tc := ⟨.hbm, 203, rfl⟩
abbrev main_while0b_v142 : Ref sig .tc := ⟨.hbm, 204, rfl⟩
abbrev main_while0b_v143 : Ref sig .tc := ⟨.hbm, 205, rfl⟩
abbrev main_while0b_v144 : Ref sig .tc := ⟨.hbm, 206, rfl⟩
abbrev main_while0b_v145 : Ref sig .tc := ⟨.hbm, 207, rfl⟩
abbrev main_while0b_v146 : Ref sig .tc := ⟨.hbm, 208, rfl⟩
abbrev main_while0b_v147 : Ref sig .tc := ⟨.hbm, 209, rfl⟩
abbrev main_while0b_v148 : Ref sig .tc := ⟨.hbm, 210, rfl⟩
abbrev main_while0b_v149 : Ref sig .tc := ⟨.hbm, 211, rfl⟩
abbrev main_while0b_cst_25 : Ref sig .tc := ⟨.hbm, 212, rfl⟩
abbrev main_while0b_v150 : Ref sig .tc := ⟨.hbm, 213, rfl⟩
abbrev main_while0b_v151 : Ref sig .tc := ⟨.hbm, 214, rfl⟩
abbrev main_while0b_v152 : Ref sig .tc := ⟨.hbm, 215, rfl⟩
abbrev main_while0b_v153 : Ref sig .tc := ⟨.hbm, 216, rfl⟩
abbrev main_while0b_v154 : Ref sig .tc := ⟨.hbm, 217, rfl⟩
abbrev main_while0b_v155 : Ref sig .tc := ⟨.hbm, 218, rfl⟩
abbrev main_while0b_v156 : Ref sig .tc := ⟨.hbm, 219, rfl⟩
abbrev main_while0b_v157 : Ref sig .tc := ⟨.hbm, 220, rfl⟩
abbrev main_while0b_v158 : Ref sig .tc := ⟨.hbm, 221, rfl⟩
abbrev main_while0b_v159 : Ref sig .tc := ⟨.hbm, 222, rfl⟩
abbrev main_while0b_v160 : Ref sig .tc := ⟨.hbm, 223, rfl⟩
abbrev main_while0b_v161 : Ref sig .tc := ⟨.hbm, 224, rfl⟩
abbrev main_while0b_v162 : Ref sig .tc := ⟨.hbm, 225, rfl⟩
abbrev main_while0b_v163 : Ref sig .tc := ⟨.hbm, 226, rfl⟩
abbrev main_while0b_v164 : Ref sig .tc := ⟨.hbm, 227, rfl⟩
abbrev main_while0b_v165 : Ref sig .tc := ⟨.hbm, 228, rfl⟩
abbrev main_while0b_v166 : Ref sig .tc := ⟨.hbm, 229, rfl⟩
abbrev main_while0b_v167 : Ref sig .tc := ⟨.hbm, 230, rfl⟩
abbrev main_while0b_v168 : Ref sig .tc := ⟨.hbm, 231, rfl⟩
abbrev main_while0b_v169 : Ref sig .tc := ⟨.hbm, 232, rfl⟩
abbrev main_while0b_v170 : Ref sig .tc := ⟨.hbm, 233, rfl⟩
abbrev main_while0b_v171 : Ref sig .tc := ⟨.hbm, 234, rfl⟩
abbrev main_while0b_v172 : Ref sig .tc := ⟨.hbm, 235, rfl⟩
abbrev main_while0b_call11_v0 : Ref sig .tc := ⟨.hbm, 236, rfl⟩
abbrev main_while0b_call11_c : Ref sig .tc := ⟨.hbm, 237, rfl⟩
abbrev main_while0b_call11_c_0 : Ref sig .tc := ⟨.hbm, 238, rfl⟩
abbrev main_while0b_call11_c_1 : Ref sig .tc := ⟨.hbm, 239, rfl⟩
abbrev main_while0b_call11_c_2 : Ref sig .tc := ⟨.hbm, 240, rfl⟩
abbrev main_while0b_v173 : Ref sig .tc := ⟨.hbm, 241, rfl⟩
abbrev main_while0b_c_26 : Ref sig .tc := ⟨.hbm, 242, rfl⟩
abbrev main_while0b_v174 : Ref sig .tc := ⟨.hbm, 243, rfl⟩
abbrev main_v65 : Ref sig .tc := ⟨.hbm, 244, rfl⟩
abbrev main_v66 : Ref sig .tc := ⟨.hbm, 245, rfl⟩
abbrev main_v67 : Ref sig .tc := ⟨.hbm, 246, rfl⟩
abbrev main_cst_7 : Ref sig .tc := ⟨.hbm, 247, rfl⟩
abbrev main_v68 : Ref sig .tc := ⟨.hbm, 248, rfl⟩
abbrev main_v69 : Ref sig .tc := ⟨.hbm, 249, rfl⟩
abbrev main_cst_8 : Ref sig .tc := ⟨.hbm, 250, rfl⟩
abbrev main_v70 : Ref sig .tc := ⟨.hbm, 251, rfl⟩
abbrev main_v71 : Ref sig .tc := ⟨.hbm, 252, rfl⟩
abbrev main_cst_9 : Ref sig .tc := ⟨.hbm, 253, rfl⟩
abbrev main_v72 : Ref sig .tc := ⟨.hbm, 254, rfl⟩
abbrev main_v73 : Ref sig .tc := ⟨.hbm, 255, rfl⟩
abbrev main_v74 : Ref sig .tc := ⟨.hbm, 256, rfl⟩
abbrev main_v75 : Ref sig .tc := ⟨.hbm, 257, rfl⟩
abbrev main_v76 : Ref sig .tc := ⟨.hbm, 258, rfl⟩
abbrev main_v77 : Ref sig .tc := ⟨.hbm, 259, rfl⟩
abbrev main_v78 : Ref sig .tc := ⟨.hbm, 260, rfl⟩
abbrev main_v79 : Ref sig .tc := ⟨.hbm, 261, rfl⟩
abbrev main_v80 : Ref sig .tc := ⟨.hbm, 262, rfl⟩
abbrev main_v81 : Ref sig .tc := ⟨.hbm, 263, rfl⟩
abbrev main_v82 : Ref sig .tc := ⟨.hbm, 264, rfl⟩
abbrev main_v83 : Ref sig .tc := ⟨.hbm, 265, rfl⟩
abbrev main_v84 : Ref sig .tc := ⟨.hbm, 266, rfl⟩
abbrev main_cst_10 : Ref sig .tc := ⟨.hbm, 267, rfl⟩
abbrev main_v85 : Ref sig .tc := ⟨.hbm, 268, rfl⟩
abbrev main_v86 : Ref sig .tc := ⟨.hbm, 269, rfl⟩
abbrev main_cst_11 : Ref sig .tc := ⟨.hbm, 270, rfl⟩
abbrev main_v87 : Ref sig .tc := ⟨.hbm, 271, rfl⟩
abbrev main_v88 : Ref sig .tc := ⟨.hbm, 272, rfl⟩
abbrev main_v89 : Ref sig .tc := ⟨.hbm, 273, rfl⟩
abbrev main_v90 : Ref sig .tc := ⟨.hbm, 274, rfl⟩
abbrev main_v91 : Ref sig .tc := ⟨.hbm, 275, rfl⟩

abbrev nD : Nat := 1
abbrev τ : Topo := Topo.v7x

variable {F : FTy → Type} [FloatOps F]

abbrev main_while0_count : Scf.Loop 32 := ⟨0#32, 128#32, 1#32⟩
-- ==== Kernel16.lean ====
abbrev S2x2048x4096 : Shape := ⟨3, ![2, 2048, 4096]⟩
abbrev S4x2048x1024 : Shape := ⟨3, ![4, 2048, 1024]⟩
abbrev S1x2048x1024 : Shape := ⟨3, ![1, 2048, 1024]⟩
abbrev S2048x1024 : Shape := ⟨2, ![2048, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x4096, .f32⟩
  | .hbm, ⟨1, _⟩ => ⟨S4x2048x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .bf16⟩
  | .local _ .vmem, ⟨3, _⟩ => ⟨S1x2048x1024, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference16Ideal.lean ====
abbrev S2x2048x4096 : Shape := ⟨3, ![2, 2048, 4096]⟩
abbrev S1x2048x4096 : Shape := ⟨3, ![1, 2048, 4096]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S1x2048x4096, .f32⟩
  | .hbm, ⟨2, _⟩ => ⟨S2048x4096, .f32⟩
  | .hbm, ⟨3, _⟩ => ⟨S2048x4x1024, .f32⟩
  | .hbm, ⟨4, _⟩ => ⟨S4x2048x1024, .f32⟩
  | .hbm, ⟨5, _⟩ => ⟨S4x2048x1024, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Kernel17.lean ====
abbrev S2x4096x1024 : Shape := ⟨3, ![2, 4096, 1024]⟩
abbrev S1x4096x1024 : Shape := ⟨3, ![1, 4096, 1024]⟩
abbrev S1x2048x1024 : Shape := ⟨3, ![1, 2048, 1024]⟩
abbrev S2048x1024 : Shape := ⟨2, ![2048, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x1024, .f32⟩
  | .hbm, ⟨1, _⟩ => ⟨S1x4096x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .bf16⟩
  | .local _ .vmem, ⟨3, _⟩ => ⟨S1x2048x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference17Ideal.lean ====
abbrev S2x4096x1024 : Shape := ⟨3, ![2, 4096, 1024]⟩
abbrev S1x4096x1024 : Shape := ⟨3, ![1, 4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x4096x1024, .f32⟩
  | .hbm, ⟨2, _⟩ => ⟨S1x4096x1024, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel18.lean ====
abbrev S2x1024x4096 : Shape := ⟨3, ![2, 1024, 4096]⟩
abbrev S1x1024x4096 : Shape := ⟨3, ![1, 1024, 4096]⟩
abbrev S1x512x4096 : Shape := ⟨3, ![1, 512, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x4096, .f32⟩
  | .hbm, ⟨1, _⟩ => ⟨S1x1024x4096, .bf16⟩
  | .local _ .vmem, ⟨0, _⟩ => ⟨S1x512x4096, .f32⟩
  | .local _ .vmem, ⟨1, _⟩ => ⟨S1x512x4096, .f32⟩
  | .local _ .vmem, ⟨2, _⟩ => ⟨S1x512x4096, .bf16⟩
  | .local _ .vmem, ⟨3, _⟩ => ⟨S1x512x4096, .bf16⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference18Ideal.lean ====
abbrev S2x1024x4096 : Shape := ⟨3, ![2, 1024, 4096]⟩
abbrev S1x1024x4096 : Shape := ⟨3, ![1, 1024, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S1x1024x4096, .f32⟩
  | .hbm, ⟨2, _⟩ => ⟨S1x1024x4096, .bf16⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.RefRun.lean ====
/- What the reference program computes before its loop, stretch by stretch: each buffer a later stretch reads, as a value
   of the arguments. Then the loop: the carried buffers after `k` trips are the fields of `k` steps of the loop's body
   read as a function (`Step.step`), and the result is what the operations after the loop make of the last state. -/
module

public import proofs.«01_k».proof.Proof.Gen.ReferenceIdeal.Run
public import proofs.«01_k».proof.Proof.Gen.ReferenceIdeal.Step

@[expose] public section

set_option maxRecDepth 8192
set_option maxHeartbeats 2000000

noncomputable section

namespace Cert.HGRN.Ref

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

section Stretches

variable (V : Valuation τ sig (Elt F))

/-! ### The first stretch: the three column blocks of the projections and the softmax over the two layers -/

theorem first_v1 : after hostOps0 V (Proc.devRef .tc main_v1)
    = Step.A_main_v1 (V (Proc.devRef .tc main_arg0)) (V (Proc.devRef .tc main_arg1)) := by
  after_reads_simp; rfl

theorem first_v3 : after hostOps0 V (Proc.devRef .tc main_v3)
    = Step.A_main_v3 (V (Proc.devRef .tc main_arg0)) (V (Proc.devRef .tc main_arg1)) := by
  after_reads_simp; rfl

theorem first_v5 : after hostOps0 V (Proc.devRef .tc main_v5)
    = Step.A_main_v5 (V (Proc.devRef .tc main_arg0)) (V (Proc.devRef .tc main_arg1)) := by
  after_reads_simp; rfl

theorem first_v16 : after hostOps0 V (Proc.devRef .tc main_v16)
    = Step.A_main_v16 (V (Proc.devRef .tc main_arg0)) (V (Proc.devRef .tc main_arg1)) := by
  after_reads_simp; rfl

/-! ### The second stretch: the running sum over the layers -/

theorem second_v17 : after hostOps0_1 V (Proc.devRef .tc main_v17)
    = Host.reduceWindowAdd ![2, 1] ![1, 1] ![1, 0] ![0, 0] (V (Proc.devRef .tc main_v16)) Step.K_main_call0_call0_v0
        reduceWindows_S2x2048_S2x2048_w2s1p1_0_w1s1p0_0 h_S_ := by
  after_reads_simp; rfl

theorem second_v1 : after hostOps0_1 V (Proc.devRef .tc main_v1) = V (Proc.devRef .tc main_v1) := by after_reads_simp
theorem second_v3 : after hostOps0_1 V (Proc.devRef .tc main_v3) = V (Proc.devRef .tc main_v3) := by after_reads_simp
theorem second_v5 : after hostOps0_1 V (Proc.devRef .tc main_v5) = V (Proc.devRef .tc main_v5) := by after_reads_simp

/-! ### The third stretch: the gate, its logarithm and its complement, by heads -/

variable (a0 : (⟨S16384x14336, .f32⟩ : BufTy).Contents (Elt F)) (a1 : (⟨S2x2048, .f32⟩ : BufTy).Contents (Elt F))

theorem third_v38 (h17 : V (Proc.devRef .tc main_v17) = Step.A_main_v17 a0 a1) (h3 : V (Proc.devRef .tc main_v3) = Step.A_main_v3 a0 a1) :
    after hostOps0_2 V (Proc.devRef .tc main_v38) = Step.A_main_v38 a0 a1 := by
  after_reads_simp; rw [h17, h3]; rfl

theorem third_v41 (h17 : V (Proc.devRef .tc main_v17) = Step.A_main_v17 a0 a1) (h3 : V (Proc.devRef .tc main_v3) = Step.A_main_v3 a0 a1) :
    after hostOps0_2 V (Proc.devRef .tc main_v41) = Step.A_main_v41 a0 a1 := by
  after_reads_simp; rw [h17, h3]; rfl

theorem third_v42 (h1 : V (Proc.devRef .tc main_v1) = Step.A_main_v1 a0 a1) :
    after hostOps0_2 V (Proc.devRef .tc main_v42) = Step.A_main_v42 a0 a1 := by
  after_reads_simp; rw [h1]; rfl

theorem third_v43 (h5 : V (Proc.devRef .tc main_v5) = Step.A_main_v5 a0 a1) :
    after hostOps0_2 V (Proc.devRef .tc main_v43) = Step.A_main_v43 a0 a1 := by
  after_reads_simp; rw [h5]; rfl

theorem third_v44 : after hostOps0_2 V (Proc.devRef .tc main_v44) = Step.K_main_v44 (F := F) := by
  after_reads_simp; rfl

/-! ### The fourth stretch: the lower triangle -/

theorem fourth_v45 (h44 : V (Proc.devRef .tc main_v44) = Step.K_main_v44 (F := F)) :
    after hostOps0_3 V (Proc.devRef .tc main_v45) = Step.K_main_v45 (F := F) := by
  after_reads_simp; rw [h44]; rfl

theorem fourth_v38 : after hostOps0_3 V (Proc.devRef .tc main_v38) = V (Proc.devRef .tc main_v38) := by after_reads_simp
theorem fourth_v41 : after hostOps0_3 V (Proc.devRef .tc main_v41) = V (Proc.devRef .tc main_v41) := by after_reads_simp
theorem fourth_v42 : after hostOps0_3 V (Proc.devRef .tc main_v42) = V (Proc.devRef .tc main_v42) := by after_reads_simp
theorem fourth_v43 : after hostOps0_3 V (Proc.devRef .tc main_v43) = V (Proc.devRef .tc main_v43) := by after_reads_simp

end Stretches

section Loop

/-! ### The fifth stretch: the inputs cut into chunks of 64 rows, chunks first, and the loop's first state -/

variable (V : Valuation τ sig (Elt F))
variable (a0 : (⟨S16384x14336, .f32⟩ : BufTy).Contents (Elt F)) (a1 : (⟨S2x2048, .f32⟩ : BufTy).Contents (Elt F))

/-- The carried buffers hold the fields of a state, the counter holds `j`, and the mask is the lower triangle. -/
structure Holds (V : Valuation τ sig (Elt F)) (s : State F) (j : ℕ) : Prop where
  q : V (Proc.devRef .tc main_v56_0) = s.main_v56_0
  k : V (Proc.devRef .tc main_v56_1) = s.main_v56_1
  v : V (Proc.devRef .tc main_v56_2) = s.main_v56_2
  lg : V (Proc.devRef .tc main_v56_3) = s.main_v56_3
  tri : V (Proc.devRef .tc main_v56_4) = Step.K_main_v45 (F := F)
  n : V (Proc.devRef .tc main_v56_5) = constantI S_ 32 (BitVec.ofNat 32 j)
  st : V (Proc.devRef .tc main_v56_6) = s.main_v56_6
  out : V (Proc.devRef .tc main_v56_7) = s.main_v56_7

theorem fifth (h38 : V (Proc.devRef .tc main_v38) = Step.A_main_v38 a0 a1) (h41 : V (Proc.devRef .tc main_v41) = Step.A_main_v41 a0 a1)
    (h42 : V (Proc.devRef .tc main_v42) = Step.A_main_v42 a0 a1) (h43 : V (Proc.devRef .tc main_v43) = Step.A_main_v43 a0 a1)
    (h45 : V (Proc.devRef .tc main_v45) = Step.K_main_v45 (F := F)) :
    Holds (after hostOps0_4 V) (init a0 a1) 0 where
  q := by after_reads_simp; rw [h42]; rfl
  k := by after_reads_simp; rw [h41]; rfl
  v := by after_reads_simp; rw [h43]; rfl
  lg := by after_reads_simp; rw [h38]; rfl
  tri := by after_reads_simp; rw [h45]; rfl
  n := by after_reads_simp; rfl
  st := by after_reads_simp; rfl
  out := by after_reads_simp; rfl

/-- All five stretches, from any contents. -/
theorem entry_of : Holds (afterL preI V) (init (V (Proc.devRef .tc main_arg0)) (V (Proc.devRef .tc main_arg1))) 0 := by
  have h1 := (second_v1 (after hostOps0 V)).trans (first_v1 V)
  have h3 := (second_v3 (after hostOps0 V)).trans (first_v3 V)
  have h5 := (second_v5 (after hostOps0 V)).trans (first_v5 V)
  have h17 : after hostOps0_1 (after hostOps0 V) (Proc.devRef .tc main_v17)
      = Step.A_main_v17 (V (Proc.devRef .tc main_arg0)) (V (Proc.devRef .tc main_arg1)) := by
    rw [second_v17, first_v16]; rfl
  exact fifth _ _ _ ((fourth_v38 _).trans (third_v38 _ _ _ h17 h3)) ((fourth_v41 _).trans (third_v41 _ _ _ h17 h3))
    ((fourth_v42 _).trans (third_v42 _ _ _ h1)) ((fourth_v43 _).trans (third_v43 _ _ _ h5)) (fourth_v45 _ (third_v44 _))

/-! ### One trip -/

variable {V} {s : State F} {j : ℕ}

theorem Holds.q_chunk (h : Holds V s j) : res_main_while0b_v79 V = Step.b5 j s := by
  unfold res_main_while0b_v79; rw [h.q, h.n]; rfl

theorem Holds.k_chunk (h : Holds V s j) : res_main_while0b_v80 V = Step.b11 j s := by
  unfold res_main_while0b_v80; rw [h.k, h.n]; rfl

theorem Holds.v_chunk (h : Holds V s j) : res_main_while0b_v81 V = Step.b17 j s := by
  unfold res_main_while0b_v81; rw [h.v, h.n]; rfl

theorem Holds.sum_chunk (h : Holds V s j) : res_main_while0b_v83 V = Step.b26 j s := by
  unfold res_main_while0b_v83; rw [h.lg, h.n]; rfl

theorem Holds.last_chunk (h : Holds V s j) : res_main_while0b_v85 V = Step.b28 j s := by
  unfold res_main_while0b_v85; rw [h.sum_chunk]; rfl

theorem Holds.next (h : Holds V s j) : Holds (STEP V) (step j s) (j + 1) where
  q := (STEP_main_v56_0 V).trans h.q
  k := (STEP_main_v56_1 V).trans h.k
  v := (STEP_main_v56_2 V).trans h.v
  lg := (STEP_main_v56_3 V).trans h.lg
  tri := (STEP_main_v56_4 V).trans h.tri
  n := by
    rw [STEP_main_v56_5, step_main_v56_5, h.n]
    funext i
    change BitVec.ofNat 32 j + 1#32 = BitVec.ofNat 32 (j + 1)
    rw [BitVec.ofNat_add]
  st := by
    rw [STEP_main_v56_6]
    unfold step_main_v56_6
    rw [h.k_chunk, h.v_chunk, h.sum_chunk, h.last_chunk, h.st]
    rfl
  out := by
    rw [STEP_main_v56_7]
    unfold step_main_v56_7
    rw [h.q_chunk, h.k_chunk, h.v_chunk, h.sum_chunk, h.st, h.out, h.n, h.tri]
    rfl

/-! ### The whole loop and the result -/

/-- `k` steps from the first state. -/
def stateAt (a0 : (⟨S16384x14336, .f32⟩ : BufTy).Contents (Elt F)) (a1 : (⟨S2x2048, .f32⟩ : BufTy).Contents (Elt F)) : ℕ → State F
  | 0 => init a0 a1
  | k + 1 => step k (stateAt a0 a1 k)

theorem Holds.iterate (h : Holds V (init a0 a1) 0) : ∀ k, Holds (STEP^[k] V) (stateAt a0 a1 k) k
  | 0 => h
  | k + 1 => by
    rw [Function.iterate_succ_apply']
    exact (iterate h k).next

/-- THE REFERENCE'S RESULT as a function of its arguments: on every device, every run ends with the result buffer at the
    operations after the loop, of the state after 128 steps. -/
theorem run_state (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v78)
        = Step.R_main_v78 (stateAt (m ((c.tc : Thread nD τ).loc main_arg0)) (m ((c.tc : Thread nD τ).loc main_arg1)) 128)
            (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (run m ρ)
  have hH := Holds.iterate _ _ (entry_of (launchContents m c)) 128
  unfold out_main_v78
  rw [hH.out, iter_main_arg0 m c 128, iter_main_arg2 m c 128]
  rfl

end Loop

end Cert.HGRN.Ref
-- ==== Proof.Cumsum.lean ====
/- The running sums the reference takes with a padded window: over the 64 rows of a chunk, and over the two layers. At
   exact addition each is the plain sum of the entries up to and including the row. -/
module

public import proofs.«01_k».proof.Proof.Gen.ReferenceIdeal.Step
public import Idealize.ShloMosaic.Lib.Pointwise

@[expose] public section

set_option maxRecDepth 8192

noncomputable section

namespace Cert.HGRN.Ref

open Idealize.ShloMosaic Cert.ReferenceIdeal Cert.ReferenceIdeal.Gen

/-- A fold by addition over `0 … N - 1` from `v` is `v` plus the sum. -/
theorem foldl_add {N : ℕ} (g : Fin N → EReal) (v : EReal) :
    (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, ← List.ofFn_eq_map, List.sum_ofFn]

/-- Turning the 64 rows round so that row `t` comes last: the rows up to `t` are the window's positions that are not padding. -/
theorem sum_turn (t : Fin 64) (g : Fin 64 → EReal) :
    (∑ w : Fin 64, if h : 63 ≤ t.val + w.val then g ⟨t.val + w.val - 63, by omega⟩ else 0) = ∑ u : Fin 64, if u.val ≤ t.val then g u else 0 := by
  refine Fintype.sum_equiv (Equiv.addRight (t + 1)) _ _ fun w => ?_
  have hv : (Equiv.addRight (t + 1) w).val = (w.val + (t.val + 1) % 64) % 64 := by
    rw [Equiv.coe_addRight, Fin.val_add, Fin.val_add]; rfl
  have ht := t.isLt
  have hw := w.isLt
  by_cases h : 63 ≤ t.val + w.val
  · rw [dif_pos h, if_pos (by rw [hv]; omega)]
    congr 1
    apply Fin.ext
    rw [hv]
    change t.val + w.val - 63 = _
    omega
  · rw [dif_neg h, if_neg (by rw [hv]; omega)]

/-- THE RUNNING SUM over a chunk's rows. -/
theorem cumsum_rows (x : FVec Ideal S2x64x16x128 .f32) (v : FVec Ideal S_ .f32) (hv : v (Shape.Idx.first h_S_) = 0)
    (n : Fin 2) (t : Fin 64) (h : Fin 16) (c : Fin 128) :
    Host.reduceWindowAdd ![1, 64, 1, 1] ![1, 1, 1, 1] ![0, 63, 0, 0] ![0, 0, 0, 0] x v
        reduceWindows_S2x64x16x128_S2x64x16x128_w1s1p0_0_w64s1p63_0_w1s1p0_0_w1s1p0_0 h_S_ (ix4 n t h c)
      = ∑ u : Fin 64, if u.val ≤ t.val then x (ix4 n u h c) else 0 := by
  have e : ∀ r : EReal, r + 0 = r := add_zero
  unfold Host.reduceWindowAdd
  rw [Ideal.hostReduceWindowAdd_def]
  unfold Ideal.hostReduceWindowAdd Host.reduceWindow
  dsimp only
  rw [hv, foldl_add, zero_add]
  refine (Finset.sum_congr rfl fun m _ => ?_).trans ((Equiv.sum_comp (Shape.rowMajor (⟨4, ![1, 64, 1, 1]⟩ : Shape)).symm (fun i : (⟨4, ![1, 64, 1, 1]⟩ : Shape).Idx => (if hin : ∀ a : Fin 4, (![0, 63, 0, 0] : Fin 4 → ℕ) a ≤ (ix4 n t h c a).val * (![1, 1, 1, 1] : Fin 4 → ℕ) a + (i a).val
      ∧ (ix4 n t h c a).val * (![1, 1, 1, 1] : Fin 4 → ℕ) a + (i a).val - (![0, 63, 0, 0] : Fin 4 → ℕ) a < S2x64x16x128.size a then
      x (fun a => ⟨(ix4 n t h c a).val * (![1, 1, 1, 1] : Fin 4 → ℕ) a + (i a).val - (![0, 63, 0, 0] : Fin 4 → ℕ) a, (hin a).2⟩) else 0))).trans ?_)
  · dsimp only
    congr
  rw [sum_idx4]
  rw [Fin.sum_univ_one, ← sum_turn t fun u => x (ix4 n u h c)]
  refine Finset.sum_congr rfl fun w _ => ?_
  rw [Fin.sum_univ_one, Fin.sum_univ_one]
  have ht := t.isLt
  have hw := w.isLt
  by_cases hc : 63 ≤ t.val + w.val
  · rw [dif_pos hc, dif_pos]
    · congr 1
      funext a
      apply Fin.ext
      match a with
      | ⟨0, _⟩ => change n.val * 1 + 0 - 0 = n.val; omega
      | ⟨1, _⟩ => change t.val * 1 + w.val - 63 = t.val + w.val - 63; omega
      | ⟨2, _⟩ => change h.val * 1 + 0 - 0 = h.val; omega
      | ⟨3, _⟩ => change c.val * 1 + 0 - 0 = c.val; omega
    · intro a
      have := n.isLt; have := h.isLt; have := c.isLt
      match a with
      | ⟨0, _⟩ => change 0 ≤ n.val * 1 + 0 ∧ n.val * 1 + 0 - 0 < 2; omega
      | ⟨1, _⟩ => change 63 ≤ t.val * 1 + w.val ∧ t.val * 1 + w.val - 63 < 64; omega
      | ⟨2, _⟩ => change 0 ≤ h.val * 1 + 0 ∧ h.val * 1 + 0 - 0 < 16; omega
      | ⟨3, _⟩ => change 0 ≤ c.val * 1 + 0 ∧ c.val * 1 + 0 - 0 < 128; omega
  · rw [dif_neg hc, dif_neg]
    intro hin
    have h1 : 63 ≤ t.val * 1 + w.val := (hin 1).1
    omega

/-- THE RUNNING SUM over the two layers. -/
theorem cumsum_layers (x : FVec Ideal S2x2048 .f32) (v : FVec Ideal S_ .f32) (hv : v (Shape.Idx.first h_S_) = 0) (c : Fin 2048) :
    Host.reduceWindowAdd ![2, 1] ![1, 1] ![1, 0] ![0, 0] x v reduceWindows_S2x2048_S2x2048_w2s1p1_0_w1s1p0_0 h_S_ (ix2 0 c)
        = x (ix2 0 c)
      ∧ Host.reduceWindowAdd ![2, 1] ![1, 1] ![1, 0] ![0, 0] x v reduceWindows_S2x2048_S2x2048_w2s1p1_0_w1s1p0_0 h_S_ (ix2 1 c)
        = x (ix2 0 c) + x (ix2 1 c) := by
  have hc := c.isLt
  have key : ∀ l : Fin 2, Host.reduceWindowAdd ![2, 1] ![1, 1] ![1, 0] ![0, 0] x v reduceWindows_S2x2048_S2x2048_w2s1p1_0_w1s1p0_0 h_S_ (ix2 l c)
      = ∑ w : Fin 2, if hw : 1 ≤ l.val + w.val then x (ix2 ⟨l.val + w.val - 1, by omega⟩ c) else 0 := by
    intro l
    unfold Host.reduceWindowAdd
    rw [Ideal.hostReduceWindowAdd_def]
    unfold Ideal.hostReduceWindowAdd Host.reduceWindow
    dsimp only
    rw [hv, foldl_add, zero_add]
    refine (Finset.sum_congr rfl fun m _ => ?_).trans ((Equiv.sum_comp (Shape.rowMajor (⟨2, ![2, 1]⟩ : Shape)).symm (fun i : (⟨2, ![2, 1]⟩ : Shape).Idx => (if hin : ∀ a : Fin 2, (![1, 0] : Fin 2 → ℕ) a ≤ (ix2 l c a).val * (![1, 1] : Fin 2 → ℕ) a + (i a).val
        ∧ (ix2 l c a).val * (![1, 1] : Fin 2 → ℕ) a + (i a).val - (![1, 0] : Fin 2 → ℕ) a < S2x2048.size a then
        x (fun a => ⟨(ix2 l c a).val * (![1, 1] : Fin 2 → ℕ) a + (i a).val - (![1, 0] : Fin 2 → ℕ) a, (hin a).2⟩) else 0))).trans ?_)
    · dsimp only
      congr
    rw [sum_idx2]
    refine Finset.sum_congr rfl fun w _ => ?_
    rw [Fin.sum_univ_one]
    have hl := l.isLt
    have hw := w.isLt
    by_cases h1 : 1 ≤ l.val + w.val
    · rw [dif_pos h1, dif_pos]
      · congr 1
        funext a
        apply Fin.ext
        match a with
        | ⟨0, _⟩ => change l.val * 1 + w.val - 1 = l.val + w.val - 1; omega
        | ⟨1, _⟩ => change c.val * 1 + 0 - 0 = c.val; omega
      · intro a
        match a with
        | ⟨0, _⟩ => change 1 ≤ l.val * 1 + w.val ∧ l.val * 1 + w.val - 1 < 2; omega
        | ⟨1, _⟩ => change 0 ≤ c.val * 1 + 0 ∧ c.val * 1 + 0 - 0 < 2048; omega
    · rw [dif_neg h1, dif_neg]
      intro hin
      have h2 : 1 ≤ l.val * 1 + w.val := (hin 0).1
      omega
  constructor
  · rw [key, Fin.sum_univ_two, dif_neg (by decide), dif_pos (by decide), zero_add]; rfl
  · rw [key, Fin.sum_univ_two, dif_pos (by decide), dif_pos (by decide)]; rfl

end Cert.HGRN.Ref
-- ==== Proof.Spec.lean ====
/- The recurrence of one attention head over one chunk of 64 rows, in plain sums: the common ground of the kernel and of
   the reference. -/
module

public import Idealize.ShloMosaic.Lib.Pointwise

@[expose] public section

noncomputable section

namespace Cert.HGRN

open Idealize.ShloMosaic

/-- A head's 64 rows of 128 columns. -/
abbrev Blk := Fin 64 → Fin 128 → EReal

/-- A head's state: keys by values. -/
abbrev St := Fin 128 → Fin 128 → EReal

/-- The masked score of row `t` against row `u`. -/
def scoreS (q k b : Blk) (t u : Fin 64) : EReal :=
  ∑ c, q t c * k u c * Ideal.exp (if u.val ≤ t.val then b t c - b u c else ⊥)

/-- The head's output at row `t`, column `d`. -/
def outS (q k b v : Blk) (st : St) (t : Fin 64) (d : Fin 128) : EReal :=
  ∑ u, v u d * scoreS q k b t u + ∑ c, st c d * (q t c * Ideal.exp (b t c))

/-- The state after the chunk. -/
def nextS (k b v : Blk) (st : St) (c d : Fin 128) : EReal :=
  Ideal.exp (b 63 c) * st c d + ∑ u, k u c * Ideal.exp (b 63 c - b u c) * v u d

/-- The gated, normalised output: `o` the head's output row, `w` the head's norm weight, `g` the gate. -/
def gateS (o : Fin 128 → EReal) (w g : EReal) (d : Fin 128) : EReal :=
  o d * Ideal.rsqrt (Ideal.div (∑ x, o x * o x) (Ideal.ofBits .f32 1124073472#32) + Ideal.ofBits .f32 897988541#32) * w *
    (g * Ideal.div 1 (1 + Ideal.exp (-g)))

end Cert.HGRN
-- ==== Proof.Recur.lean ====
/- The whole gated recurrence as a function of the projections, the first layer's share `lb` of the softmax and the norm
   weights, in plain sums: the blocks of a chunk, the state after `j` chunks, the outputs, and the result. -/
module

public import proofs.«01_k».proof.Proof.Spec

@[expose] public section

noncomputable section

namespace Cert.HGRN

open Idealize.ShloMosaic

/-- Row `t` of chunk `j` of sequence `n`. -/
def rowIx (n : Fin 2) (j : ℕ) (t : Fin 64) : Fin 16384 := Fin.ofNat 16384 (n.val * 8192 + j * 64 + t.val)

/-- Column `c` of head `h` in the block of columns from `base`. -/
def colIx (base : ℕ) (h : Fin 16) (c : Fin 128) : Fin 14336 := Fin.ofNat 14336 (base + (h.val * 128 + c.val))

/-- Column `c` of head `h` among the 2048 channels. -/
def chan (h : Fin 16) (c : Fin 128) : Fin 2048 := ⟨h.val * 128 + c.val, by omega⟩

/-- The forget gate: between `lb` and one. -/
def gateF (lb z : EReal) : EReal := lb + (1 - lb) * Ideal.div 1 (1 + Ideal.exp (-z))

section

variable (lb : Fin 2048 → EReal) (x : Fin 16384 → Fin 14336 → EReal) (n : Fin 2) (h : Fin 16) (j : ℕ)

/-- The queries of a chunk. -/
def qB : Blk := fun t c => x (rowIx n j t) (colIx 6144 h c)

/-- The forget gates of a chunk. -/
def fB : Blk := fun t c => gateF (lb (chan h c)) (x (rowIx n j t) (colIx 8192 h c))

/-- The values of a chunk. -/
def vB : Blk := fun t c => x (rowIx n j t) (colIx 10240 h c)

/-- The keys of a chunk. -/
def kB : Blk := fun t c => 1 - fB lb x n h j t c

/-- The running sums of the gates' logarithms. -/
def bB : Blk := fun t c => ∑ u : Fin 64, if u.val ≤ t.val then Ideal.log (fB lb x n h j u c) else 0

/-- The state before chunk `j`. -/
def stS : ℕ → St
  | 0 => fun _ _ => 0
  | j + 1 => nextS (kB lb x n h j) (bB lb x n h j) (vB x n h j) (stS j)

/-- The head's outputs in chunk `j`. -/
def oS (t : Fin 64) (d : Fin 128) : EReal :=
  outS (qB x n h j) (kB lb x n h j) (bB lb x n h j) (vB x n h j) (stS lb x n h j) t d

end

/-- The result at row `r`, channel `c`. -/
def resS (lb : Fin 2048 → EReal) (x : Fin 16384 → Fin 14336 → EReal) (w : Fin 2048 → EReal) (r : Fin 16384) (c : Fin 2048) : EReal :=
  gateS (oS lb x ⟨r.val / 8192, by omega⟩ ⟨c.val / 128, by omega⟩ (r.val % 8192 / 64) ⟨r.val % 8192 % 64, by omega⟩)
    (w c) (x r (Fin.ofNat 14336 (12288 + c.val))) ⟨c.val % 128, by omega⟩

end Cert.HGRN
-- ==== Proof.RefRead.lean ====
/- The reference's values at an index: its chunked inputs, one trip of its loop, the state after `j` trips, and its result,
   as the recurrence of Recur.lean. -/
module

public import proofs.«01_k».proof.Proof.RefRun
public import proofs.«01_k».proof.Proof.Cumsum
public import proofs.«01_k».proof.Proof.Recur

@[expose] public section

set_option maxRecDepth 16384

noncomputable section

namespace Cert.HGRN.Ref

open Idealize.ShloMosaic Cert.ReferenceIdeal Cert.ReferenceIdeal.Gen
open Cert.ReferenceIdeal.Step Cert.HGRN

variable (a0 : FVec Ideal S16384x14336 .f32) (a1 : FVec Ideal S2x2048 .f32)

/-- The projections by row and column. -/
def xOf : Fin 16384 → Fin 14336 → EReal := fun r c => a0 (ix2 r c)

/-- The first layer's share of the softmax over the two layers, as the reference makes it. -/
def lbOf : Fin 2048 → EReal := fun c => A_main_v22 (F := Ideal) a0 a1 (ix1 c)

theorem at_rowIx (n : Fin 2) (j : Fin 128) (t : Fin 64) (base : ℕ) (hb : base ≤ 12288) (h : Fin 16) (c : Fin 128)
    (p : n.val * 8192 + (j.val * 64 + t.val) < 16384) (q : base + (h.val * 128 + c.val) < 14336) :
    a0 (ix2 ⟨n.val * 8192 + (j.val * 64 + t.val), p⟩ ⟨base + (h.val * 128 + c.val), q⟩) = xOf a0 (rowIx n j.val t) (colIx base h c) := by
  have er : (⟨n.val * 8192 + (j.val * 64 + t.val), p⟩ : Fin 16384) = rowIx n j.val t := by
    apply Fin.ext
    unfold rowIx
    rw [Fin.val_ofNat, Nat.add_assoc, Nat.mod_eq_of_lt p]
  have ec : (⟨base + (h.val * 128 + c.val), q⟩ : Fin 14336) = colIx base h c := by
    apply Fin.ext
    unfold colIx
    rw [Fin.val_ofNat, Nat.mod_eq_of_lt q]
  rw [er, ec]
  rfl

theorem q_in (j : Fin 128) (n : Fin 2) (t : Fin 64) (h : Fin 16) (c : Fin 128) :
    A_main_v48 (F := Ideal) a0 a1 (ix5 j n t h c) = qB (xOf a0) n h j.val t c := by
  pointwise [A_main_v48, A_main_v47, A_main_v42, A_main_v1, A_main_v0]
  have e := at_rowIx a0 n j t 6144 (by omega) h c (by omega) (by omega)
  simp only [← Nat.add_assoc] at e ⊢
  exact e

theorem v_in (j : Fin 128) (n : Fin 2) (t : Fin 64) (h : Fin 16) (c : Fin 128) :
    A_main_v52 (F := Ideal) a0 a1 (ix5 j n t h c) = vB (xOf a0) n h j.val t c := by
  pointwise [A_main_v52, A_main_v51, A_main_v43, A_main_v5, A_main_v4]
  have e := at_rowIx a0 n j t 10240 (by omega) h c (by omega) (by omega)
  simp only [← Nat.add_assoc] at e ⊢
  exact e

theorem lg_in (j : Fin 128) (n : Fin 2) (t : Fin 64) (h : Fin 16) (c : Fin 128) :
    A_main_v54 (F := Ideal) a0 a1 (ix5 j n t h c) = Ideal.log (fB (lbOf a0 a1) (xOf a0) n h j.val t c) := by
  pointwise [A_main_v54, A_main_v53, A_main_v38, A_main_v37, A_main_v36, A_main_v35, A_main_v34, A_main_v33, A_main_v32,
    A_main_v31, A_main_v30, A_main_v28, A_main_v26, A_main_v25, A_main_v24, A_main_v3, A_main_v2, K_main_v27, K_main_v29,
    K_main_v23, K_main_cst_2, K_main_cst_3, K_main_cst_4]
  have e := at_rowIx a0 n j t 8192 (by omega) h c (by omega) (by omega)
  rw [e]
  rfl

theorem k_in (j : Fin 128) (n : Fin 2) (t : Fin 64) (h : Fin 16) (c : Fin 128) :
    A_main_v50 (F := Ideal) a0 a1 (ix5 j n t h c) = kB (lbOf a0 a1) (xOf a0) n h j.val t c := by
  pointwise [A_main_v50, A_main_v49, A_main_v41, A_main_v40, A_main_v36, A_main_v35, A_main_v34, A_main_v33, A_main_v32,
    A_main_v31, A_main_v30, A_main_v28, A_main_v26, A_main_v25, A_main_v24, A_main_v3, A_main_v2, K_main_v27, K_main_v29,
    K_main_v23, K_main_v39, K_main_cst_2, K_main_cst_3, K_main_cst_4, K_main_cst_5]
  have e := at_rowIx a0 n j t 8192 (by omega) h c (by omega) (by omega)
  rw [e]
  rfl

/-! ### One trip -/

section Trip

variable (j : Fin 128) (s : State Ideal) (n : Fin 2) (t u : Fin 64) (h : Fin 16) (c d : Fin 128)

/-- A trip's number as the start of its window. -/
theorem start_toInt : (BitVec.ofNat 32 j.val).toInt = (j.val : ℤ) := by
  have := j.isLt
  rw [BitVec.toInt_eq_toNat_of_lt (by rw [BitVec.toNat_ofNat]; omega), BitVec.toNat_ofNat]
  omega

/-- A window's start: the trip's number among the chunks, zero elsewhere. -/
abbrev starts : Fin 5 → ℤ := fun a => BitVec.toInt ((![constantI S_ 32 (BitVec.ofNat 32 j.val), constantI S_ 32 0#32, constantI S_ 32 0#32, constantI S_ 32 0#32, constantI S_ 32 0#32] : Fin 5 → (⟨S_, .i32⟩ : BufTy).Contents (Elt Ideal)) a (Shape.Idx.first h_S_))

theorem clamp0 (hr) : Host.clampedStart S128x2x64x16x128 S1x2x64x16x128 hr (starts j) 0 = j.val :=
  Host.clampedStart_of_le hr _ _ _ (start_toInt j) (by have := j.isLt; change j.val + 1 ≤ 128; omega)
theorem clamp1 (hr) : Host.clampedStart S128x2x64x16x128 S1x2x64x16x128 hr (starts j) 1 = 0 :=
  Host.clampedStart_of_le hr _ _ _ rfl (by change 0 + 2 ≤ 2; omega)
theorem clamp2 (hr) : Host.clampedStart S128x2x64x16x128 S1x2x64x16x128 hr (starts j) 2 = 0 :=
  Host.clampedStart_of_le hr _ _ _ rfl (by change 0 + 64 ≤ 64; omega)
theorem clamp3 (hr) : Host.clampedStart S128x2x64x16x128 S1x2x64x16x128 hr (starts j) 3 = 0 :=
  Host.clampedStart_of_le hr _ _ _ rfl (by change 0 + 16 ≤ 16; omega)
theorem clamp4 (hr) : Host.clampedStart S128x2x64x16x128 S1x2x64x16x128 hr (starts j) 4 = 0 :=
  Host.clampedStart_of_le hr _ _ _ rfl (by change 0 + 128 ≤ 128; omega)

theorem q_at : b5 j.val s (ix4 n t h c) = s.main_v56_0 (ix5 j n t h c) := by
  pointwise [b5, b4, b3, b2, b1, b0]
  simp only [clamp0, clamp1, clamp2, clamp3, clamp4, Nat.zero_add]

theorem k_at : b11 j.val s (ix4 n t h c) = s.main_v56_1 (ix5 j n t h c) := by
  pointwise [b11, b10, b9, b8, b7, b6]
  simp only [clamp0, clamp1, clamp2, clamp3, clamp4, Nat.zero_add]

theorem v_at : b17 j.val s (ix4 n t h c) = s.main_v56_2 (ix5 j n t h c) := by
  pointwise [b17, b16, b15, b14, b13, b12]
  simp only [clamp0, clamp1, clamp2, clamp3, clamp4, Nat.zero_add]

theorem lg_at : b23 j.val s (ix4 n t h c) = s.main_v56_3 (ix5 j n t h c) := by
  pointwise [b23, b22, b21, b20, b19, b18]
  simp only [clamp0, clamp1, clamp2, clamp3, clamp4, Nat.zero_add]

/-- The running sum a trip takes. -/
theorem sum_at : b26 j.val s (ix4 n t h c) = ∑ u : Fin 64, if u.val ≤ t.val then s.main_v56_3 (ix5 j n u h c) else 0 := by
  unfold b26
  rw [cumsum_rows _ _ (by rw [b25]; pointwise [b24]) n t h c]
  refine Finset.sum_congr rfl fun u _ => ?_
  rw [lg_at]

/-- A head's block of a chunked array. -/
def blkOf (x : FVec Ideal S2x64x16x128 .f32) (n : Fin 2) (h : Fin 16) : Blk := fun t c => x (ix4 n t h c)

/-- A head's state, keys by values. -/
def stOf' (st : FVec Ideal S2x16x128x128 .f32) (n : Fin 2) (h : Fin 16) : St := fun c d => st (ix4 n h c d)

theorem tri_at : K_main_v45 (F := Ideal) (ix2 t u) = if u.val ≤ t.val then 1#1 else 0#1 := by
  pointwise [K_main_v45, K_main_v44, K_main_call1_v5, K_main_call1_v4, K_main_call1_v3, K_main_call1_v2, K_main_call1_v1, K_main_call1_v0,
    K_main_call1_c, K_main_call1_c_0, K_main_c]
  revert t u
  decide

theorem ofBits_bot : Ideal.ofBits .f32 4286578688#32 = ⊥ := by simp [Ideal.ofBits, Ideal.ieee]

theorem ofBits_zero : Ideal.ofBits .f32 0#32 = 0 := by simp [Ideal.ofBits, Ideal.ieee]

theorem score_at : b48 j.val s (ix4 n t u h)
    = scoreS (blkOf (b5 j.val s) n h) (blkOf (b11 j.val s) n h) (blkOf (b26 j.val s) n h) t u := by
  pointwise [b48, b47, b46, b45, b44, b43, b42, b41, b40, b39, b38, b37, b36, b35, b34, b33, b32, b31, b30, b29]
  rw [tri_at, ofBits_bot]
  unfold scoreS
  refine Finset.sum_congr rfl fun x _ => ?_
  congr 2
  by_cases hu : u.val ≤ t.val
  · rw [if_pos hu, if_pos hu]; rfl
  · rw [if_neg hu, if_neg hu]; rfl

theorem out_at : b56 j.val s (ix4 n t h d)
    = outS (blkOf (b5 j.val s) n h) (blkOf (b11 j.val s) n h) (blkOf (b26 j.val s) n h) (blkOf (b17 j.val s) n h)
        (stOf' s.main_v56_6 n h) t d := by
  pointwise [b56, b55, b54, b53, b52, b51, b50, b49]
  simp only [score_at]
  rfl

theorem next_at : b67 j.val s (ix4 n h c d)
    = nextS (blkOf (b11 j.val s) n h) (blkOf (b26 j.val s) n h) (blkOf (b17 j.val s) n h) (stOf' s.main_v56_6 n h) c d := by
  pointwise [b67, b66, b65, b64, b63, b62, b61, b60, b59, b58, b57, b28, b27]
  rfl

theorem put_chunk (e : Fin 128) : b73 j.val s (ix5 e n t h d)
    = if e = j then b56 j.val s (ix4 n t h d) else s.main_v56_7 (ix5 e n t h d) := by
  pointwise [b73, b72, b71, b70, b69, b68]
  simp only [clamp0, clamp1, clamp2, clamp3, clamp4, Nat.zero_le, Nat.sub_zero, and_true, true_and]
  by_cases he : e = j
  · subst he
    rw [if_pos rfl, dif_pos ⟨le_refl _, Nat.lt_succ_self _⟩]
  · rw [if_neg he, dif_neg fun hh => he (Fin.ext (by omega))]

end Trip

/-! ### All trips -/

/-- THE STATE after `k` trips: the inputs unchanged, the recurrence's state, and the outputs of the chunks done. -/
theorem state_at (k : ℕ) (hk : k ≤ 128) :
    (stateAt (F := Ideal) a0 a1 k).main_v56_0 = A_main_v48 a0 a1 ∧ (stateAt (F := Ideal) a0 a1 k).main_v56_1 = A_main_v50 a0 a1
    ∧ (stateAt (F := Ideal) a0 a1 k).main_v56_2 = A_main_v52 a0 a1 ∧ (stateAt (F := Ideal) a0 a1 k).main_v56_3 = A_main_v54 a0 a1
    ∧ (∀ n h, stOf' (stateAt (F := Ideal) a0 a1 k).main_v56_6 n h = stS (lbOf a0 a1) (xOf a0) n h k)
    ∧ ∀ (e : Fin 128) n t h d, e.val < k →
        (stateAt (F := Ideal) a0 a1 k).main_v56_7 (ix5 e n t h d) = oS (lbOf a0 a1) (xOf a0) n h e.val t d := by
  induction k with
  | zero =>
    refine ⟨rfl, rfl, rfl, rfl, fun n h => ?_, fun e n t h d he => absurd he (Nat.not_lt_zero _)⟩
    funext c d
    change K_main_v46 (F := Ideal) (ix4 n h c d) = 0
    pointwise [K_main_v46, K_main_cst_6]
  | succ k ih =>
    obtain ⟨i0, i1, i2, i3, i6, i7⟩ := ih (by omega)
    let j : Fin 128 := ⟨k, by omega⟩
    have eq : ∀ n h, blkOf (b5 k (stateAt (F := Ideal) a0 a1 k)) n h = qB (xOf a0) n h k := fun n h => by
      funext t c
      exact (q_at j _ n t h c).trans ((congrFun i0 _).trans (q_in a0 a1 j n t h c))
    have ek : ∀ n h, blkOf (b11 k (stateAt (F := Ideal) a0 a1 k)) n h = kB (lbOf a0 a1) (xOf a0) n h k := fun n h => by
      funext t c
      exact (k_at j _ n t h c).trans ((congrFun i1 _).trans (k_in a0 a1 j n t h c))
    have ev : ∀ n h, blkOf (b17 k (stateAt (F := Ideal) a0 a1 k)) n h = vB (xOf a0) n h k := fun n h => by
      funext t c
      exact (v_at j _ n t h c).trans ((congrFun i2 _).trans (v_in a0 a1 j n t h c))
    have eb : ∀ n h, blkOf (b26 k (stateAt (F := Ideal) a0 a1 k)) n h = bB (lbOf a0 a1) (xOf a0) n h k := fun n h => by
      funext t c
      refine (sum_at j _ n t h c).trans (Finset.sum_congr rfl fun u _ => ?_)
      rw [i3, lg_in]
    refine ⟨i0, i1, i2, i3, fun n h => ?_, fun e n t h d he => ?_⟩
    · funext c d
      refine (next_at j _ n h c d).trans ?_
      rw [ek, ev, eb, i6]
      rfl
    · refine (put_chunk j _ n t h d e).trans ?_
      by_cases hej : e = j
      · subst hej
        rw [if_pos rfl]
        refine (out_at j _ n t h d).trans ?_
        rw [eq, ek, ev, eb, i6]
        rfl
      · rw [if_neg hej]
        exact i7 e n t h d (by
          have : e.val ≠ k := fun q => hej (Fin.ext q)
          omega)

/-- The operations after the loop, of any last state. -/
theorem final_at (s : State Ideal) (a2 : FVec Ideal S2048 .f32) (r : Fin 16384) (c : Fin 2048) :
    R_main_v78 s a0 a2 (ix2 r c)
      = gateS (fun d => s.main_v56_7 (ix5 ⟨r.val % 8192 / 64, by omega⟩ ⟨r.val / 8192, by omega⟩ ⟨r.val % 8192 % 64, by omega⟩ ⟨c.val / 128, by omega⟩ d))
          (a2 (ix1 c)) (a0 (ix2 r ⟨12288 + c.val, by omega⟩)) ⟨c.val % 128, by omega⟩ := by
  pointwise [R_main_v78]
  rfl

/-- THE REFERENCE'S RESULT at row `r`, channel `c`. -/
theorem result_at (a2 : FVec Ideal S2048 .f32) (r : Fin 16384) (c : Fin 2048) :
    R_main_v78 (stateAt (F := Ideal) a0 a1 128) a0 a2 (ix2 r c) = resS (lbOf a0 a1) (xOf a0) (fun c => a2 (ix1 c)) r c := by
  have h := (state_at a0 a1 128 (le_refl _)).2.2.2.2.2
  generalize stateAt (F := Ideal) a0 a1 128 = s at h ⊢
  have e : (⟨12288 + c.val, by omega⟩ : Fin 14336) = Fin.ofNat 14336 (12288 + c.val) := by
    apply Fin.ext
    rw [Fin.val_ofNat, Nat.mod_eq_of_lt (by omega)]
  rw [final_at, e]
  unfold resS
  congr 1
  funext d
  exact h _ _ _ _ _ (Fin.isLt _)

end Cert.HGRN.Ref
-- ==== Proof.Model.lean ====
/- The body of the HGRN2 scan kernel, said once per attention head: what the sixteen unrolled heads of one grid point
   compute, as functions of the point's blocks and of the head's number. -/
module

public import proofs.«01_k».proof.Proof.Gen.KernelIdeal.Skeleton

@[expose] public section

set_option maxRecDepth 16384

noncomputable section

namespace Cert.HGRN

open Idealize.ShloMosaic Cert.KernelIdeal Cert.KernelIdeal.Gen

variable {F : FTy → Type} [FloatOps F]

/-- Head `h`'s columns lie in a row of sixteen heads. -/
theorem headSlices (h : Fin 16) : S64x2048.Slices ![0, 128 * h.val] S64x128 := by
  revert h; decide

theorem headSlices1 (h : Fin 16) : S1x2048.Slices ![0, 128 * h.val] S1x128 := by
  revert h; decide

/-! ## The integer tables -/

/-- The row numbers of a chunk. -/
def rows : IVec S64x1 32 := iota .tc S64x1 32 [0] iota_S64x1_d0_w32

/-- The level of a pair (row, column): the position of the highest bit in which they differ if the row is the later
    one (found by counting leading zeros), `-1` on the diagonal, `-2` above it. -/
def level : IVec S64x64 32 :=
  select (cmpi .sgt (iota .tc S64x64 32 [0] iota_S64x64_d0_w32) (iota .tc S64x64 32 [1] iota_S64x64_d1_w32))
    (subi (broadcast S64x64 31#32)
      (ctlz (xori (iota .tc S64x64 32 [0] iota_S64x64_d0_w32) (iota .tc S64x64 32 [1] iota_S64x64_d1_w32))))
    (select (cmpi .eq (iota .tc S64x64 32 [0] iota_S64x64_d0_w32) (iota .tc S64x64 32 [1] iota_S64x64_d1_w32))
      (broadcast S64x64 4294967295#32) (broadcast S64x64 4294967294#32))

/-- The pairs of one level. -/
def onLevel (l : BitVec 32) : IVec S64x64 1 := cmpi .eq level (broadcast S64x64 l)

/-- The rows whose number is odd. -/
def oddRow : IVec S64x1 1 := cmpi .eq (andi rows (broadcast S64x1 1#32)) (broadcast S64x1 1#32)

/-- The rows whose number has bit `l` set. -/
def bitRow (l : BitVec 32) : IVec S64x1 1 :=
  cmpi .eq (andi (shrsi rows (broadcast S64x1 l)) (broadcast S64x1 1#32)) (broadcast S64x1 1#32)

/-- A choice made by rows. -/
def byRow (p : IVec S64x1 1) (x y : FVec F S64x2048 .f32) : FVec F S64x2048 .f32 :=
  select (broadcastTo S64x2048 (shapeCast S64x1 p shapeCasts_S64x1_S64x1) broadcasts_S64x1_S64x2048) x y

/-- The rows moved down by `n` places, cyclically. -/
def rot (n : BitVec 32) (x : FVec F S64x2048 .f32) : FVec F S64x2048 .f32 :=
  dynamicRotate 0 n none x rotates_S64x2048_d0

/-! ## The decays of a level -/

/-- The sum of logarithms at the start of each row's block of two rows. -/
def first1 (b : FVec F S64x2048 .f32) : FVec F S64x2048 .f32 := byRow oddRow (rot 1#32 b) b

/-- From the starts of blocks of `w` rows to those of blocks of `2 w` rows, `l` being the bit that tells the halves. -/
def firstNext (l w : BitVec 32) (fw : FVec F S64x2048 .f32) : FVec F S64x2048 .f32 := byRow (bitRow l) (rot w fw) fw

/-- The decay of a row to (or from) the middle of its block. -/
def decay (l w' : BitVec 32) (b fw : FVec F S64x2048 .f32) : FVec F S64x2048 .f32 :=
  exp (subf (byRow (bitRow l) b (rot w' fw)) (byRow (bitRow l) fw b))

def first2 (b : FVec F S64x2048 .f32) := firstNext 1#32 2#32 (first1 b)
def first3 (b : FVec F S64x2048 .f32) := firstNext 2#32 4#32 (first2 b)
def first4 (b : FVec F S64x2048 .f32) := firstNext 3#32 8#32 (first3 b)
def first5 (b : FVec F S64x2048 .f32) := firstNext 4#32 16#32 (first4 b)

/-! ## The scores -/

/-- The scores of one level put over those of the levels below. -/
def put (m : IVec S64x64 1) (q k : FVec F S64x2048 .bf16) (h : Fin 16) (a : FVec F S64x64 .f32) : FVec F S64x64 .f32 :=
  select m
    (matmul dot_S64x128_S64x128_S64x64_1_1_0_0_n_n none (extractStridedSlice S64x128 ![0, 128 * h.val] q (headSlices h))
      (extractStridedSlice S64x128 ![0, 128 * h.val] k (headSlices h)) (constant S64x64 .f32 0x00000000#32)) a

/-- A level's queries or keys: scaled by their decay. -/
def scaled (x e : FVec F S64x2048 .f32) : FVec F S64x2048 .bf16 := truncf .bf16 (mulf x e) bitsLt_bf16_f32

def putLevel (l w' : BitVec 32) (q k b fw : FVec F S64x2048 .f32) (h : Fin 16) (a : FVec F S64x64 .f32) :
    FVec F S64x64 .f32 :=
  put (onLevel l) (scaled q (decay l w' b fw)) (scaled k (decay l w' b fw)) h a

/-- The masked scores of head `h`: from the queries `q`, the forget gates `f`, the keys `k` and the running sums `b`
    of the gates' logarithms. -/
def scores (q f k b : FVec F S64x2048 .f32) (h : Fin 16) : FVec F S64x64 .f32 :=
  putLevel 5#32 32#32 q k b (first5 b) h <|
  putLevel 4#32 48#32 q k b (first4 b) h <|
  putLevel 3#32 56#32 q k b (first3 b) h <|
  putLevel 2#32 60#32 q k b (first2 b) h <|
  putLevel 1#32 62#32 q k b (first1 b) h <|
  put (onLevel 0#32) (truncf .bf16 q bitsLt_bf16_f32) (scaled k (rot 63#32 f)) h <|
  put (onLevel 4294967295#32) (truncf .bf16 q bitsLt_bf16_f32) (truncf .bf16 k bitsLt_bf16_f32) h <|
  broadcast S64x64 (Scalar.ofBits .f32 0x00000000#32)

/-! ## The head's output and the next state -/

/-- The last row of the running sums. -/
def lastRow (b : FVec F S64x2048 .f32) : FVec F S1x2048 .f32 :=
  extractStridedSlice S1x2048 ![63, 0] b slices_S64x2048_o63_0_S1x2048

def asMat (st : FVec F S1x128x128 .f32) : FVec F S128x128 .f32 := shapeCast S128x128 st shapeCasts_S1x128x128_S128x128

/-- The recurrence's output for head `h`, before normalisation. -/
def headOut (q f k b v : FVec F S64x2048 .f32) (st : FVec F S1x128x128 .f32) (h : Fin 16) : FVec F S64x128 .f32 :=
  addf
    (matmul dot_S64x64_S64x128_S64x128_1_0_0_1_n_n none (truncf .bf16 (scores q f k b h) bitsLt_bf16_f32)
      (extractStridedSlice S64x128 ![0, 128 * h.val] (truncf .bf16 v bitsLt_bf16_f32) (headSlices h))
      (constant S64x128 .f32 0x00000000#32))
    (matmul dot_S64x128_S128x128_S64x128_1_1_0_0_n_n none
      (extractStridedSlice S64x128 ![0, 128 * h.val] (scaled q (exp b)) (headSlices h))
      (truncf .bf16 (asMat st) bitsLt_bf16_f32) (constant S64x128 .f32 0x00000000#32))

/-- The state (values by keys) that head `h` leaves for the next chunk. -/
def headNext (k b v : FVec F S64x2048 .f32) (st : FVec F S1x128x128 .f32) (h : Fin 16) : FVec F S1x128x128 .f32 :=
  shapeCast S1x128x128
    (addf
      (mulf (asMat st)
        (broadcastTo S128x128 (extractStridedSlice S1x128 ![0, 128 * h.val] (exp (lastRow b)) (headSlices1 h))
          broadcasts_S1x128_S128x128))
      (matmul dot_S64x128_S64x128_S128x128_0_0_1_1_n_n none
        (extractStridedSlice S64x128 ![0, 128 * h.val] (truncf .bf16 v bitsLt_bf16_f32) (headSlices h))
        (extractStridedSlice S64x128 ![0, 128 * h.val]
          (scaled k (exp (subf (broadcastTo S64x2048 (lastRow b) broadcasts_S1x2048_S64x2048) b))) (headSlices h))
        (constant S128x128 .f32 0x00000000#32)))
    shapeCasts_S128x128_S1x128x128

/-- The mean square of each row of a head's output, with the small constant added. -/
def meanSq (o : FVec F S64x128 .f32) : FVec F S64x1 .f32 :=
  addf
    (divf (shapeCast S64x1 (multiReduction .add [1] S64 (mulf o o) 0x00000000#32 reduces_S64x128_S64 (.inl rfl) rfl)
        shapeCasts_S64_S64x1)
      (broadcast S64x1 (Scalar.ofBits .f32 0x43000000#32)))
    (broadcast S64x1 (Scalar.ofBits .f32 0x358637BD#32))

/-- Normalisation by root mean square, the head's weights `w` and the gate `g`. -/
def gated (o : FVec F S64x128 .f32) (w : FVec F S1x128 .f32) (g : FVec F S64x128 .f32) : FVec F S64x128 .bf16 :=
  truncf .bf16
    (mulf
      (mulf (mulf o (broadcastTo S64x128 (rsqrt (meanSq o)) broadcasts_S64x1_S64x128))
        (broadcastTo S64x128 (shapeCast S1x128 w shapeCasts_S1x128_S1x128) broadcasts_S1x128_S64x128))
      (mulf g (divf (broadcast S64x128 (Scalar.ofBits .f32 0x3F800000#32))
        (addf (broadcast S64x128 (Scalar.ofBits .f32 0x3F800000#32))
          (exp (subf (broadcast S64x128 (Scalar.ofBits .f32 0x00000000#32)) g))))))
    bitsLt_bf16_f32

end Cert.HGRN
-- ==== Proof.Pieces.lean ====
/- What one grid point of the scan stores, case by case: sixteen blocks of the output and sixteen blocks of the state,
   each the same function of its head's number. -/
module

public import proofs.«01_k».proof.Proof.Model
public import proofs.«01_k».proof.Proof.Gen.KernelIdeal.Value

@[expose] public section

set_option maxRecDepth 16384

noncomputable section

namespace Cert.HGRN

open Idealize.ShloMosaic Idealize.ShloMosaic.TcCoe Cert.KernelIdeal Cert.KernelIdeal.Gen

variable {F : FTy → Type} [FloatOps F]

/-- Head `h`'s columns lie in the block. -/
theorem inbOut (h : Fin 16) : ∀ a, (![0, 128 * h.val] : Fin 2 → Nat) a + S64x128.size a ≤ S64x2048.size a := by
  revert h; decide

theorem inbNorm (h : Fin 16) : ∀ a, (![0, 128 * h.val] : Fin 2 → Nat) a + S1x128.size a ≤ S1x2048.size a := by
  revert h; decide

theorem inbSt (h : Fin 16) : ∀ a, (![h.val, 0, 0] : Fin 3 → Nat) a + S1x128x128.size a ≤ S16x128x128.size a := by
  revert h; decide

def rOut (h : Fin 16) : Rect S64x2048 := Rect.unit ![0, 128 * h.val] S64x128.size (inbOut h)
def rNorm (h : Fin 16) : Rect S1x2048 := Rect.unit ![0, 128 * h.val] S1x128.size (inbNorm h)
def rSt (h : Fin 16) : Rect S16x128x128 := Rect.unit ![h.val, 0, 0] S1x128x128.size (inbSt h)
def rAll : Rect S64x2048 := Rect.unit ![0, 0] S64x2048.size inb_S64x2048_S64x2048_0_0
def rLb : Rect S2x2048 := Rect.unit ![0, 0] S2x2048.size inb_S2x2048_S2x2048_0_0

/-- Head `h`'s stored block: `q`, `z` (the forget gates' inputs), `v`, `lb` whole; `g`, `w`, `st` the head's own. -/
def outPay (q z v : FVec F S64x2048 .f32) (lb : FVec F S2x2048 .f32) (g : FVec F S64x128 .f32) (w : FVec F S1x128 .f32)
    (st : FVec F S1x128x128 .f32) (h : Fin 16) : FVec F S64x128 .bf16 :=
  gated (headOut q (k0_pay3 lb z) (k0_pay4 lb z) (k0_pay5 lb z) v st h) w g

def stPay (z v : FVec F S64x2048 .f32) (lb : FVec F S2x2048 .f32) (st : FVec F S1x128x128 .f32) (h : Fin 16) :
    FVec F S1x128x128 .f32 :=
  headNext (k0_pay4 lb z) (k0_pay5 lb z) v st h

/-- The heads from last to first, the order in which the stores are listed. -/
def down (k : Fin 16) : Fin 16 := ⟨15 - k.val, by omega⟩

section B
variable (c : Dev nD) (i : grid0.Coords) (arg2 : Memref sig .tc .vmem S64x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S2x2048 .f32) (harg6 : arg6.IsWhole) (arg7 : Memref sig .tc .vmem S1x2048 .f32) (harg7 : arg7.IsWhole) (arg8 : Memref sig .tc .vmem S64x2048 .bf16) (harg8 : arg8.IsWhole) (arg9 : Memref sig .tc .vmem S16x128x128 .f32) (harg9 : arg9.IsWhole)
    (x0 : Vec F S64x2048 .f32) (x1 : Vec F S64x2048 .f32) (x2 : Vec F S64x2048 .f32) (x3 : Vec F S64x2048 .f32) (x4 : Vec F S2x2048 .f32) (x5 : Vec F S1x2048 .f32)

theorem stPieces_B (hc0 : ¬cond0_0 i) (xs0 : Vec F S16x128x128 .f32) :
    (kernelRun0_B c i arg2 harg2 arg3 harg3 arg4 harg4 arg5 harg5 arg6 harg6 arg7 harg7 arg8 harg8 arg9 harg9 hc0 x0 x1 x2 x3 x4 x5 xs0).2.1 =
      List.ofFn fun k : Fin 16 => (⟨rSt (down k),
        stPay (View.readAt (Elt F) arg3.view rAll.toLoadRect (harg3.unread x1))
          (View.readAt (Elt F) arg4.view rAll.toLoadRect (harg4.unread x2))
          (View.readAt (Elt F) arg6.view rLb.toLoadRect (harg6.unread x4))
          (View.readAt (Elt F) arg9.view (rSt (down k)).toLoadRect (harg9.unread xs0)) (down k)⟩ : View.Piece (Elt F) S16x128x128 .f32) := by
  unfold kernelRun0_B
  rfl

theorem outPieces_B (hc0 : ¬cond0_0 i) (xs0 : Vec F S16x128x128 .f32) :
    (kernelRun0_B c i arg2 harg2 arg3 harg3 arg4 harg4 arg5 harg5 arg6 harg6 arg7 harg7 arg8 harg8 arg9 harg9 hc0 x0 x1 x2 x3 x4 x5 xs0).1 =
      List.ofFn fun k : Fin 16 => (⟨rOut (down k),
        outPay (View.readAt (Elt F) arg2.view rAll.toLoadRect (harg2.unread x0))
          (View.readAt (Elt F) arg3.view rAll.toLoadRect (harg3.unread x1))
          (View.readAt (Elt F) arg4.view rAll.toLoadRect (harg4.unread x2))
          (View.readAt (Elt F) arg6.view rLb.toLoadRect (harg6.unread x4))
          (View.readAt (Elt F) arg5.view (rOut (down k)).toLoadRect (harg5.unread x3))
          (View.readAt (Elt F) arg7.view (rNorm (down k)).toLoadRect (harg7.unread x5))
          (View.readAt (Elt F) arg9.view (rSt (down k)).toLoadRect (harg9.unread xs0)) (down k)⟩ : View.Piece (Elt F) S64x2048 .bf16) := by
  unfold kernelRun0_B
  rfl

/-- The state's stores at a chunk that starts a sequence: all zeros first, then head by head, each head's state read
    back from what is stored before it. -/
def hist (arg9 : Memref sig .tc .vmem S16x128x128 .f32) (z v : FVec F S64x2048 .f32) (lb : FVec F S2x2048 .f32) :
    Nat → List (View.Piece (Elt F) S16x128x128 .f32)
  | 0 => [⟨Rect.unit ![0, 0, 0] S16x128x128.size inb_S16x128x128_S16x128x128_0_0_0, k0_pay2⟩]
  | n + 1 => ⟨rSt ⟨n % 16, Nat.mod_lt _ (by decide)⟩,
      stPay z v lb (arg9.view.readCov (hist arg9 z v lb n) (rSt ⟨n % 16, Nat.mod_lt _ (by decide)⟩).toLoadRect)
        ⟨n % 16, Nat.mod_lt _ (by decide)⟩⟩ :: hist arg9 z v lb n

theorem stPieces_A (hc0 : cond0_0 i) :
    (kernelRun0_A c i arg2 harg2 arg3 harg3 arg4 harg4 arg5 harg5 arg6 harg6 arg7 harg7 arg8 harg8 arg9 harg9 hc0 x0 x1 x2 x3 x4 x5).2.1 =
      hist arg9 (View.readAt (Elt F) arg3.view rAll.toLoadRect (harg3.unread x1))
        (View.readAt (Elt F) arg4.view rAll.toLoadRect (harg4.unread x2))
        (View.readAt (Elt F) arg6.view rLb.toLoadRect (harg6.unread x4)) 16 := by
  unfold kernelRun0_A
  rfl

theorem outPieces_A (hc0 : cond0_0 i) :
    (kernelRun0_A c i arg2 harg2 arg3 harg3 arg4 harg4 arg5 harg5 arg6 harg6 arg7 harg7 arg8 harg8 arg9 harg9 hc0 x0 x1 x2 x3 x4 x5).1 =
      List.ofFn fun k : Fin 16 => (⟨rOut (down k),
        outPay (View.readAt (Elt F) arg2.view rAll.toLoadRect (harg2.unread x0))
          (View.readAt (Elt F) arg3.view rAll.toLoadRect (harg3.unread x1))
          (View.readAt (Elt F) arg4.view rAll.toLoadRect (harg4.unread x2))
          (View.readAt (Elt F) arg6.view rLb.toLoadRect (harg6.unread x4))
          (View.readAt (Elt F) arg5.view (rOut (down k)).toLoadRect (harg5.unread x3))
          (View.readAt (Elt F) arg7.view (rNorm (down k)).toLoadRect (harg7.unread x5))
          (arg9.view.readCov (hist arg9 (View.readAt (Elt F) arg3.view rAll.toLoadRect (harg3.unread x1))
            (View.readAt (Elt F) arg4.view rAll.toLoadRect (harg4.unread x2))
            (View.readAt (Elt F) arg6.view rLb.toLoadRect (harg6.unread x4)) (down k).val)
            (rSt (down k)).toLoadRect) (down k)⟩ : View.Piece (Elt F) S64x2048 .bf16) := by
  unfold kernelRun0_A
  rfl
end B

end Cert.HGRN
-- ==== Proof.Cases.lean ====
/- What one grid point leaves in the output block and in the carried state, head by head, of the blocks it reads: at a
   chunk that starts a sequence the state it works from is all zeros. -/
module

public import proofs.«01_k».proof.Proof.Pieces
public import proofs.«01_k».proof.Proof.Recur
public import Idealize.ShloMosaic.Lib.Pipeline.ValueKit.Tiles

@[expose] public section

set_option maxRecDepth 16384

noncomputable section

namespace Cert.HGRN

open Idealize.ShloMosaic Idealize.ShloMosaic.TcCoe Cert.KernelIdeal Cert.KernelIdeal.Gen

variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl

/-- Head `h`'s columns of a block, of the norm weights, and its state. -/
def outH (g : FVec F S64x2048 .f32) (h : Fin 16) : FVec F S64x128 .f32 := fun y => g ((rOut h).idx y)
def normH (w : FVec F S1x2048 .f32) (h : Fin 16) : FVec F S1x128 .f32 := fun y => w ((rNorm h).idx y)
def stH (st : FVec F S16x128x128 .f32) (h : Fin 16) : FVec F S1x128x128 .f32 := fun y => st ((rSt h).idx y)

theorem outPay_congr {q q' z z' v v' : FVec F S64x2048 .f32} {lb lb' : FVec F S2x2048 .f32} {g g' : FVec F S64x128 .f32}
    {w w' : FVec F S1x128 .f32} {st st' : FVec F S1x128x128 .f32} {h h' : Fin 16} (eq : q = q') (ez : z = z') (ev : v = v')
    (el : lb = lb') (eg : g = g') (ew : w = w') (es : st = st') (eh : h = h') (y : S64x128.Idx) :
    outPay q z v lb g w st h y = outPay q' z' v' lb' g' w' st' h' y := by
  subst eq ez ev el eg ew es eh; rfl

theorem stPay_congr {z z' v v' : FVec F S64x2048 .f32} {lb lb' : FVec F S2x2048 .f32}
    {st st' : FVec F S1x128x128 .f32} {h h' : Fin 16} (ez : z = z') (ev : v = v')
    (el : lb = lb') (es : st = st') (eh : h = h') (y : S1x128x128.Idx) :
    stPay z v lb st h y = stPay z' v' lb' st' h' y := by
  subst ez ev el es eh; rfl

theorem read_all (arg : Memref sig .tc .vmem S64x2048 .f32) (harg : arg.IsWhole) (x : Vec F S64x2048 .f32) :
    View.readAt (Elt F) arg.view rAll.toLoadRect (harg.unread x) = x := by
  rw [View.readAt_eq_ld, harg.read_unread]
  unfold rAll
  exact View.ld_unit_zero hz2 _ x

theorem read_lb (arg : Memref sig .tc .vmem S2x2048 .f32) (harg : arg.IsWhole) (x : Vec F S2x2048 .f32) :
    View.readAt (Elt F) arg.view rLb.toLoadRect (harg.unread x) = x := by
  rw [View.readAt_eq_ld, harg.read_unread]
  unfold rLb
  exact View.ld_unit_zero hz2 _ x

theorem read_out (arg : Memref sig .tc .vmem S64x2048 .f32) (harg : arg.IsWhole) (x : Vec F S64x2048 .f32) {h h' : Fin 16} (e : h' = h) :
    View.readAt (Elt F) arg.view (rOut h').toLoadRect (harg.unread x) = outH x h := by
  subst e
  rw [View.readAt_eq_ld, harg.read_unread]
  rfl

theorem read_norm (arg : Memref sig .tc .vmem S1x2048 .f32) (harg : arg.IsWhole) (x : Vec F S1x2048 .f32) {h h' : Fin 16} (e : h' = h) :
    View.readAt (Elt F) arg.view (rNorm h').toLoadRect (harg.unread x) = normH x h := by
  subst e
  rw [View.readAt_eq_ld, harg.read_unread]
  rfl

theorem read_st (arg : Memref sig .tc .vmem S16x128x128 .f32) (harg : arg.IsWhole) (x : Vec F S16x128x128 .f32) {h h' : Fin 16} (e : h' = h) :
    View.readAt (Elt F) arg.view (rSt h').toLoadRect (harg.unread x) = stH x h := by
  subst e
  rw [View.readAt_eq_ld, harg.read_unread]
  rfl

theorem down_down (h : Fin 16) : down (down h) = h := by
  apply Fin.ext; change 15 - (15 - h.val) = h.val; omega

/-- An index of head `h`'s state block is the whole state's at `h`. -/
theorem rSt_idx (h : Fin 16) (x : S1x128x128.Idx) : (rSt h).idx x = ix3 h (x 1) (x 2) := by
  funext a
  apply Fin.ext
  have h0 : (x 0).val = 0 := by have := (x 0).isLt; change (x 0).val < 1 at this; omega
  refine (Rect.idx_unit_val _ _ _ x a).trans ?_
  match a with
  | ⟨0, _⟩ => change h.val + (x 0).val = h.val; omega
  | ⟨1, _⟩ => change 0 + (x 1).val = (x 1).val; omega
  | ⟨2, _⟩ => change 0 + (x 2).val = (x 2).val; omega

/-- Sixteen stores of head blocks into the output: at head `h`'s column `d`, head `h`'s payload. -/
theorem canon_out (P : (k : Fin 16) → (rOut (down k)).shape.Idx → Elt F .bf16) (h : Fin 16) (t : Fin 64) (d : Fin 128) :
    View.canon (List.ofFn fun k : Fin 16 => (⟨rOut (down k), P k⟩ : View.Piece (Elt F) S64x2048 .bf16)) (ix2 t (chan h d))
      = P (down h) (ix2 t d) := by
  refine View.canon_ofFn_unit_eq_of_forall (S := S64x2048) (fun k => ![0, 128 * (down k).val]) S64x128.size (fun k => inbOut (down k)) P _ _
    ⟨down h, fun a => ?_⟩ fun k x hx => ?_
  · rw [down_down]
    have ht := t.isLt
    have hd := d.isLt
    match a with
    | ⟨0, _⟩ => change 0 ≤ t.val ∧ t.val < 0 + 64; omega
    | ⟨1, _⟩ => change 128 * h.val ≤ h.val * 128 + d.val ∧ h.val * 128 + d.val < 128 * h.val + 128; omega
  · have h0 : t.val = 0 + (x 0).val := hx 0
    have h1 : h.val * 128 + d.val = 128 * (15 - k.val) + (x 1).val := hx 1
    have x1 : (x 1).val < 128 := (x 1).isLt
    have hd := d.isLt
    have hk := k.isLt
    have hh := h.isLt
    obtain rfl : k = down h := by apply Fin.ext; change k.val = 15 - h.val; omega
    congr 1
    funext a
    apply Fin.ext
    match a with
    | ⟨0, _⟩ => change (x 0).val = t.val; omega
    | ⟨1, _⟩ =>
      change (x 1).val = d.val
      change h.val * 128 + d.val = 128 * (15 - (15 - h.val)) + (x 1).val at h1
      omega

/-- Sixteen stores of head blocks into the state. -/
theorem canon_st (P : (k : Fin 16) → (rSt (down k)).shape.Idx → Elt F .f32) (h : Fin 16) (d c : Fin 128) :
    View.canon (List.ofFn fun k : Fin 16 => (⟨rSt (down k), P k⟩ : View.Piece (Elt F) S16x128x128 .f32)) (ix3 h d c)
      = P (down h) (ix3 0 d c) := by
  refine View.canon_ofFn_unit_eq_of_forall (S := S16x128x128) (fun k => ![(down k).val, 0, 0]) S1x128x128.size (fun k => inbSt (down k)) P _ _
    ⟨down h, fun a => ?_⟩ fun k x hx => ?_
  · rw [down_down]
    have hd := d.isLt
    have hc := c.isLt
    match a with
    | ⟨0, _⟩ => change h.val ≤ h.val ∧ h.val < h.val + 1; omega
    | ⟨1, _⟩ => change 0 ≤ d.val ∧ d.val < 0 + 128; omega
    | ⟨2, _⟩ => change 0 ≤ c.val ∧ c.val < 0 + 128; omega
  · have h0 : h.val = 15 - k.val + (x 0).val := hx 0
    have h1 : d.val = 0 + (x 1).val := hx 1
    have h2 : c.val = 0 + (x 2).val := hx 2
    have x0 : (x 0).val < 1 := (x 0).isLt
    have hk := k.isLt
    have hh := h.isLt
    obtain rfl : k = down h := by apply Fin.ext; change k.val = 15 - h.val; omega
    congr 1
    funext a
    apply Fin.ext
    match a with
    | ⟨0, _⟩ => change (x 0).val = 0; omega
    | ⟨1, _⟩ => change (x 1).val = d.val; omega
    | ⟨2, _⟩ => change (x 2).val = c.val; omega

/-- THE STATE'S STORES at a chunk that starts a sequence, after `n` heads: the heads done hold their new state, the
    others are still zero. -/
theorem canon_hist (arg9 : Memref sig .tc .vmem S16x128x128 .f32) (z v : FVec F S64x2048 .f32) (lb : FVec F S2x2048 .f32) :
    ∀ n, n ≤ 16 → ∀ (h : Fin 16) (d c : Fin 128), View.canon (hist arg9 z v lb n) (ix3 h d c)
      = if h.val < n then stPay z v lb (stH k0_pay2 h) h (ix3 0 d c) else k0_pay2 (F := F) (ix3 h d c)
  | 0, _, h, d, c => by
    rw [if_neg (Nat.not_lt_zero _)]
    unfold hist
    rw [View.canon_cons_unit_zero hz3]
  | n + 1, hn, h, d, c => by
    have ih := canon_hist arg9 z v lb n (by omega)
    have e : n % 16 = n := Nat.mod_eq_of_lt (by omega)
    let k : Fin 16 := ⟨n, by omega⟩
    have hk : (⟨n % 16, Nat.mod_lt _ (by decide)⟩ : Fin 16) = k := Fin.ext e
    have hr : arg9.view.readCov (hist arg9 z v lb n) (rSt k).toLoadRect = stH k0_pay2 k := by
      rw [View.readCov_eq_canon']
      funext x
      refine (congrArg (View.canon (Val := Elt F) (hist arg9 z v lb n)) (rSt_idx k x)).trans ((ih k (x 1) (x 2)).trans ?_)
      rw [if_neg (Nat.lt_irrefl _)]
      exact congrArg (k0_pay2 (F := F)) (rSt_idx k x).symm
    unfold hist
    rw [hk, hr]
    by_cases hh : h = k
    · subst hh
      rw [if_pos (Nat.lt_succ_self _)]
      have hx := View.canon_cons_emb (Val := Elt F) (rSt k) (stPay z v lb (stH k0_pay2 k) k) (hist arg9 z v lb n) (ix3 0 d c)
      have hi : (rSt k).emb (ix3 0 d c) = ix3 k d c := rSt_idx k (ix3 0 d c)
      rw [hi] at hx
      exact hx
    · have hne : h.val ≠ n := fun q => hh (Fin.ext q)
      rw [View.canon_cons_of_not_mem, ih]
      · by_cases hlt : h.val < n
        · rw [if_pos hlt, if_pos (by omega)]
        · rw [if_neg hlt, if_neg (by omega)]
      · intro hm
        have hm' := (Rect.mem_set_unit (inb := inbSt k).mp hm) 0
        change n ≤ h.val ∧ h.val < n + 1 at hm'
        omega

/-- A head's state is read before it is stored: all zeros. -/
theorem read_hist (arg9 : Memref sig .tc .vmem S16x128x128 .f32) (z v : FVec F S64x2048 .f32) (lb : FVec F S2x2048 .f32)
    {h h' : Fin 16} (e : h' = h) :
    arg9.view.readCov (hist arg9 z v lb h'.val) (rSt h').toLoadRect = stH k0_pay2 h := by
  subst e
  rw [View.readCov_eq_canon']
  funext x
  refine (congrArg (View.canon (Val := Elt F) (hist arg9 z v lb h'.val)) (rSt_idx h' x)).trans
    ((canon_hist arg9 z v lb h'.val (by omega) h' (x 1) (x 2)).trans ?_)
  rw [if_neg (Nat.lt_irrefl _)]
  exact congrArg (k0_pay2 (F := F)) (rSt_idx h' x).symm

section Cases
variable (c : Dev nD) (i : grid0.Coords) (arg2 : Memref sig .tc .vmem S64x2048 .f32) (harg2 : arg2.IsWhole) (arg3 : Memref sig .tc .vmem S64x2048 .f32) (harg3 : arg3.IsWhole) (arg4 : Memref sig .tc .vmem S64x2048 .f32) (harg4 : arg4.IsWhole) (arg5 : Memref sig .tc .vmem S64x2048 .f32) (harg5 : arg5.IsWhole) (arg6 : Memref sig .tc .vmem S2x2048 .f32) (harg6 : arg6.IsWhole) (arg7 : Memref sig .tc .vmem S1x2048 .f32) (harg7 : arg7.IsWhole) (arg8 : Memref sig .tc .vmem S64x2048 .bf16) (harg8 : arg8.IsWhole) (arg9 : Memref sig .tc .vmem S16x128x128 .f32) (harg9 : arg9.IsWhole)
    (x0 : Vec F S64x2048 .f32) (x1 : Vec F S64x2048 .f32) (x2 : Vec F S64x2048 .f32) (x3 : Vec F S64x2048 .f32) (x4 : Vec F S2x2048 .f32) (x5 : Vec F S1x2048 .f32)

theorem st_B (hc0 : ¬cond0_0 i) (xs0 : Vec F S16x128x128 .f32) (h : Fin 16) (d e : Fin 128) :
    sout0_B_0 c i arg2 harg2 arg3 harg3 arg4 harg4 arg5 harg5 arg6 harg6 arg7 harg7 arg8 harg8 arg9 harg9 hc0 x0 x1 x2 x3 x4 x5 xs0 (ix3 h d e)
      = stPay x1 x2 x4 (stH xs0 h) h (ix3 0 d e) := by
  unfold sout0_B_0
  rw [View.read_writes_junk_eq_canon, stPieces_B]
  exact (canon_st _ h d e).trans (stPay_congr (read_all arg3 harg3 x1) (read_all arg4 harg4 x2) (read_lb arg6 harg6 x4)
    (read_st arg9 harg9 xs0 (down_down h)) (down_down h) _)

theorem out_B (hc0 : ¬cond0_0 i) (xs0 : Vec F S16x128x128 .f32) (h : Fin 16) (t : Fin 64) (d : Fin 128) :
    out0_B_6 c i arg2 harg2 arg3 harg3 arg4 harg4 arg5 harg5 arg6 harg6 arg7 harg7 arg8 harg8 arg9 harg9 hc0 x0 x1 x2 x3 x4 x5 xs0 (ix2 t (chan h d))
      = outPay x0 x1 x2 x4 (outH x3 h) (normH x5 h) (stH xs0 h) h (ix2 t d) := by
  unfold out0_B_6
  rw [View.read_writes_junk_eq_canon, outPieces_B]
  exact (canon_out _ h t d).trans (outPay_congr (read_all arg2 harg2 x0) (read_all arg3 harg3 x1) (read_all arg4 harg4 x2)
    (read_lb arg6 harg6 x4) (read_out arg5 harg5 x3 (down_down h)) (read_norm arg7 harg7 x5 (down_down h))
    (read_st arg9 harg9 xs0 (down_down h)) (down_down h) _)

theorem st_A (hc0 : cond0_0 i) (h : Fin 16) (d e : Fin 128) :
    sout0_A_0 c i arg2 harg2 arg3 harg3 arg4 harg4 arg5 harg5 arg6 harg6 arg7 harg7 arg8 harg8 arg9 harg9 hc0 x0 x1 x2 x3 x4 x5 (ix3 h d e)
      = stPay x1 x2 x4 (stH k0_pay2 h) h (ix3 0 d e) := by
  unfold sout0_A_0
  rw [View.read_writes_junk_eq_canon, stPieces_A]
  refine (canon_hist _ _ _ _ 16 (le_refl _) h d e).trans ?_
  rw [if_pos h.isLt]
  exact stPay_congr (read_all arg3 harg3 x1) (read_all arg4 harg4 x2) (read_lb arg6 harg6 x4) rfl rfl _

theorem out_A (hc0 : cond0_0 i) (h : Fin 16) (t : Fin 64) (d : Fin 128) :
    out0_A_6 c i arg2 harg2 arg3 harg3 arg4 harg4 arg5 harg5 arg6 harg6 arg7 harg7 arg8 harg8 arg9 harg9 hc0 x0 x1 x2 x3 x4 x5 (ix2 t (chan h d))
      = outPay x0 x1 x2 x4 (outH x3 h) (normH x5 h) (stH k0_pay2 h) h (ix2 t d) := by
  unfold out0_A_6
  rw [View.read_writes_junk_eq_canon, outPieces_A]
  exact (canon_out _ h t d).trans (outPay_congr (read_all arg2 harg2 x0) (read_all arg3 harg3 x1) (read_all arg4 harg4 x2)
    (read_lb arg6 harg6 x4) (read_out arg5 harg5 x3 (down_down h)) (read_norm arg7 harg7 x5 (down_down h))
    (read_hist arg9 _ _ _ (down_down h)) (down_down h) _)

end Cases

end Cert.HGRN
-- ==== Proof.Levels.lean ====
/- The integer tables of the scan, decided: which rows have a bit set, and which pairs of rows lie on which level. -/
module

public import proofs.«01_k».proof.Proof.Model
public import Idealize.ShloMosaic.Lib.Pointwise

@[expose] public section

set_option maxRecDepth 16384

noncomputable section

namespace Cert.HGRN

open Idealize.ShloMosaic Cert.KernelIdeal Cert.KernelIdeal.Gen

theorem oddRow_at : ∀ t : Fin 64, oddRow (ix2 t 0) = if t.val % 2 = 1 then 1#1 else 0#1 := by
  decide +kernel

theorem bitRow1_at : ∀ t : Fin 64, bitRow 1#32 (ix2 t 0) = if t.val / 2 % 2 = 1 then 1#1 else 0#1 := by decide +kernel
theorem bitRow2_at : ∀ t : Fin 64, bitRow 2#32 (ix2 t 0) = if t.val / 4 % 2 = 1 then 1#1 else 0#1 := by decide +kernel
theorem bitRow3_at : ∀ t : Fin 64, bitRow 3#32 (ix2 t 0) = if t.val / 8 % 2 = 1 then 1#1 else 0#1 := by decide +kernel
theorem bitRow4_at : ∀ t : Fin 64, bitRow 4#32 (ix2 t 0) = if t.val / 16 % 2 = 1 then 1#1 else 0#1 := by decide +kernel
theorem bitRow5_at : ∀ t : Fin 64, bitRow 5#32 (ix2 t 0) = if t.val / 32 % 2 = 1 then 1#1 else 0#1 := by decide +kernel

/-- A pair on level `l`: the rows differ first in bit `l`, which the later row has. -/
def OnLev (l : BitVec 32) (w : Nat) : Prop :=
  ∀ t s : Fin 64, onLevel l (ix2 t s) = 1#1 → t.val / w = s.val / w + 1 ∧ s.val / w % 2 = 0

instance (l : BitVec 32) (w : Nat) : Decidable (OnLev l w) := by unfold OnLev; infer_instance

theorem onLev5 : OnLev 5#32 32 := by decide +kernel
theorem onLev4 : OnLev 4#32 16 := by decide +kernel
theorem onLev3 : OnLev 3#32 8 := by decide +kernel
theorem onLev2 : OnLev 2#32 4 := by decide +kernel
theorem onLev1 : OnLev 1#32 2 := by decide +kernel
theorem onLev0 : OnLev 0#32 1 := by decide +kernel

theorem onDiag : ∀ t s : Fin 64, onLevel 4294967295#32 (ix2 t s) = 1#1 → t = s := by decide +kernel

/-- A pair on no level lies above the diagonal. -/
theorem offLevels : ∀ t s : Fin 64, t.val < s.val ∨ onLevel 5#32 (ix2 t s) = 1#1 ∨ onLevel 4#32 (ix2 t s) = 1#1 ∨
    onLevel 3#32 (ix2 t s) = 1#1 ∨ onLevel 2#32 (ix2 t s) = 1#1 ∨ onLevel 1#32 (ix2 t s) = 1#1 ∨
    onLevel 0#32 (ix2 t s) = 1#1 ∨ onLevel 4294967295#32 (ix2 t s) = 1#1 := by
  decide +kernel

end Cert.HGRN
-- ==== Proof.Scores.lean ====
/- The scores of the scan kernel, level by level: the product of a level's two decays is the decay between the rows. -/
module

public import proofs.«01_k».proof.Proof.Levels
public import proofs.«01_k».proof.Proof.Spec

@[expose] public section

set_option maxRecDepth 16384

noncomputable section

namespace Cert.HGRN

open Idealize.ShloMosaic Cert.KernelIdeal Cert.KernelIdeal.Gen

/-- Head `h`'s column `c` in a row of sixteen heads. -/
def col (h : Fin 16) (c : Fin 128) : Fin 2048 := ⟨128 * h.val + c.val, by omega⟩

/-- Head `h`'s columns of a block. -/
def blk (h : Fin 16) (x : FVec Ideal S64x2048 .f32) : Blk := fun t c => x (ix2 t (col h c))

theorem select_at {α : Type} (p : BitVec 1) (x y : α) : Scalar.select p x y = if p = 1#1 then x else y := by
  unfold Scalar.select
  rcases BitVec.eq_zero_or_eq_one p with h | h <;> simp [h]

theorem byRow_at (p : IVec S64x1 1) (x y : FVec Ideal S64x2048 .f32) (t : Fin 64) (c : Fin 2048) :
    byRow p x y (ix2 t c) = if p (ix2 t 0) = 1#1 then x (ix2 t c) else y (ix2 t c) := by
  pointwise [byRow]
  exact select_at _ _ _

theorem rot_at (n : BitVec 32) (x : FVec Ideal S64x2048 .f32) (t : Fin 64) (c : Fin 2048) :
    rot n x (ix2 t c) = x (ix2 ⟨(t.val + 64 - n.toNat % 64) % 64, Nat.mod_lt _ (by decide)⟩ c) := by
  pointwise [rot]

theorem put_at (m : IVec S64x64 1) (q k : FVec Ideal S64x2048 .bf16) (h : Fin 16) (a : FVec Ideal S64x64 .f32)
    (t s : Fin 64) : put m q k h a (ix2 t s) =
      if m (ix2 t s) = 1#1 then ∑ x, q (ix2 t (col h x)) * k (ix2 s (col h x)) else a (ix2 t s) := by
  pointwise [put]
  exact select_at _ _ _

/-! ## The sums at the starts of blocks -/

/-- `fw` holds, in each row, the row of `b` at the start of the row's block of `w` rows. -/
def Starts (w : Nat) (b fw : FVec Ideal S64x2048 .f32) : Prop :=
  ∀ (t : Fin 64) (c : Fin 2048), fw (ix2 t c) = b (ix2 ⟨t.val / w * w, lt_of_le_of_lt (Nat.div_mul_le_self _ _) t.isLt⟩ c)

theorem row_congr (b : FVec Ideal S64x2048 .f32) {n n' : Nat} (hn : n < 64) (h : n = n') (c : Fin 2048) :
    b (ix2 ⟨n, hn⟩ c) = b (ix2 ⟨n', h ▸ hn⟩ c) := by subst h; rfl

theorem starts_first1 (b : FVec Ideal S64x2048 .f32) : Starts 2 b (first1 b) := by
  intro t c
  rw [first1, byRow_at, oddRow_at, rot_at]
  have h1 : (1#32 : BitVec 32).toNat = 1 := rfl
  split_ifs with h h'
  · exact row_congr b _ (by rw [h1]; omega) c
  · exact absurd rfl h'
  · simp_all
  · exact row_congr b t.isLt (by omega) c

theorem starts_next (l W : BitVec 32) (w : Nat) (hw : w = 2 ∨ w = 4 ∨ w = 8 ∨ w = 16) (hW : W.toNat = w)
    (hl : ∀ t : Fin 64, bitRow l (ix2 t 0) = if t.val / w % 2 = 1 then 1#1 else 0#1)
    (b fw : FVec Ideal S64x2048 .f32) (h : Starts w b fw) : Starts (2 * w) b (firstNext l W fw) := by
  intro t c
  rw [firstNext, byRow_at, hl, rot_at, h, h]
  by_cases hb : t.val / w % 2 = 1
  · rw [if_pos hb, if_pos rfl]
    refine row_congr b _ ?_ c
    show (t.val + 64 - W.toNat % 64) % 64 / w * w = _
    rw [hW]
    rcases hw with rfl | rfl | rfl | rfl <;> omega
  · rw [if_neg hb, if_neg (by decide)]
    refine row_congr b _ ?_ c
    show t.val / w * w = _
    rcases hw with rfl | rfl | rfl | rfl <;> omega

theorem starts_first2 (b : FVec Ideal S64x2048 .f32) : Starts 4 b (first2 b) :=
  starts_next 1#32 2#32 2 (by decide) rfl bitRow1_at b _ (starts_first1 b)
theorem starts_first3 (b : FVec Ideal S64x2048 .f32) : Starts 8 b (first3 b) :=
  starts_next 2#32 4#32 4 (by decide) rfl bitRow2_at b _ (starts_first2 b)
theorem starts_first4 (b : FVec Ideal S64x2048 .f32) : Starts 16 b (first4 b) :=
  starts_next 3#32 8#32 8 (by decide) rfl bitRow3_at b _ (starts_first3 b)
theorem starts_first5 (b : FVec Ideal S64x2048 .f32) : Starts 32 b (first5 b) :=
  starts_next 4#32 16#32 16 (by decide) rfl bitRow4_at b _ (starts_first4 b)

/-! ## A level's decays -/

/-- The entries of `b` are real numbers. -/
def RealB (b : FVec Ideal S64x2048 .f32) (β : Fin 64 → Fin 2048 → ℝ) : Prop := ∀ t c, b (ix2 t c) = ((β t c : ℝ) : EReal)

theorem exp_sub_coe (x y : ℝ) : Ideal.exp ((x : EReal) - (y : EReal)) = ((Real.exp (x - y) : ℝ) : EReal) := by
  rw [← EReal.coe_sub]; rfl

theorem decay_pair (l W : BitVec 32) (w : Nat) (hw : w = 2 ∨ w = 4 ∨ w = 8 ∨ w = 16 ∨ w = 32) (hW : W.toNat = 64 - w)
    (hl : ∀ t : Fin 64, bitRow l (ix2 t 0) = if t.val / w % 2 = 1 then 1#1 else 0#1)
    (b fw : FVec Ideal S64x2048 .f32) (h : Starts w b fw) (β : Fin 64 → Fin 2048 → ℝ) (hβ : RealB b β)
    (t s : Fin 64) (hts : t.val / w = s.val / w + 1 ∧ s.val / w % 2 = 0) (c : Fin 2048) :
    decay l W b fw (ix2 t c) * decay l W b fw (ix2 s c) = Ideal.exp (b (ix2 t c) - b (ix2 s c)) := by
  obtain ⟨h1, h2⟩ := hts
  have e : ∀ r : Fin 64, decay l W b fw (ix2 r c) =
      Ideal.exp (byRow (bitRow l) b (rot W fw) (ix2 r c) - byRow (bitRow l) fw b (ix2 r c)) := by
    intro r; pointwise [decay]
  rw [e, e, byRow_at, byRow_at, byRow_at, byRow_at, hl, hl, if_pos (show t.val / w % 2 = 1 by omega),
    if_neg (show ¬ s.val / w % 2 = 1 by omega), if_pos rfl, if_pos rfl, if_neg (by decide), if_neg (by decide), rot_at, h, h,
    row_congr b _ (show (s.val + 64 - W.toNat % 64) % 64 / w * w = t.val / w * w by
      rw [hW]; rcases hw with rfl | rfl | rfl | rfl | rfl <;> omega) c,
    hβ, hβ, hβ, exp_sub_coe, exp_sub_coe, exp_sub_coe, ← EReal.coe_mul, ← Real.exp_add]
  congr 2; ring

/-- The scores of one level, put: on the level, the decayed inner product. -/
theorem putLevel_at (l W : BitVec 32) (w : Nat) (hw : w = 2 ∨ w = 4 ∨ w = 8 ∨ w = 16 ∨ w = 32) (hW : W.toNat = 64 - w)
    (hl : ∀ t : Fin 64, bitRow l (ix2 t 0) = if t.val / w % 2 = 1 then 1#1 else 0#1) (hlev : OnLev l w)
    (q k b fw : FVec Ideal S64x2048 .f32) (h : Starts w b fw) (β : Fin 64 → Fin 2048 → ℝ) (hβ : RealB b β)
    (hd : Fin 16) (a : FVec Ideal S64x64 .f32) (t s : Fin 64)
    (ha : ¬ onLevel l (ix2 t s) = 1#1 → a (ix2 t s) = scoreS (blk hd q) (blk hd k) (blk hd b) t s) :
    putLevel l W q k b fw hd a (ix2 t s) = scoreS (blk hd q) (blk hd k) (blk hd b) t s := by
  rw [putLevel, put_at]
  split_ifs with hm
  · have hts := hlev t s hm
    have hle : s.val ≤ t.val := by
      rcases hw with rfl | rfl | rfl | rfl | rfl <;> omega
    refine Finset.sum_congr rfl fun c _ => ?_
    rw [if_pos hle]
    have e := decay_pair l W w hw hW hl b fw h β hβ t s hts (col hd c)
    pointwise [scaled, blk]
    rw [← e]
    ac_rfl
  · exact ha hm

/-- The scores as the kernel builds them are the plain masked scores. -/
theorem scores_at (q f k b : FVec Ideal S64x2048 .f32) (β : Fin 64 → Fin 2048 → ℝ) (hβ : RealB b β)
    (hf : ∀ (t s : Fin 64), t.val = s.val + 1 → ∀ c, f (ix2 t c) = Ideal.exp (b (ix2 t c) - b (ix2 s c)))
    (h : Fin 16) (t s : Fin 64) :
    scores q f k b h (ix2 t s) = scoreS (blk h q) (blk h k) (blk h b) t s := by
  unfold scores
  refine putLevel_at _ _ 32 (by decide) rfl bitRow5_at onLev5 q k b _ (starts_first5 b) β hβ h _ t s fun h5 => ?_
  refine putLevel_at _ _ 16 (by decide) rfl bitRow4_at onLev4 q k b _ (starts_first4 b) β hβ h _ t s fun h4 => ?_
  refine putLevel_at _ _ 8 (by decide) rfl bitRow3_at onLev3 q k b _ (starts_first3 b) β hβ h _ t s fun h3 => ?_
  refine putLevel_at _ _ 4 (by decide) rfl bitRow2_at onLev2 q k b _ (starts_first2 b) β hβ h _ t s fun h2 => ?_
  refine putLevel_at _ _ 2 (by decide) rfl bitRow1_at onLev1 q k b _ (starts_first1 b) β hβ h _ t s fun h1 => ?_
  rw [put_at]
  split_ifs with h0
  · obtain ⟨e1, -⟩ := onLev0 t s h0
    rw [Nat.div_one, Nat.div_one] at e1
    refine Finset.sum_congr rfl fun c _ => ?_
    rw [if_pos (by omega)]
    have e : rot 63#32 f (ix2 s (col h c)) = f (ix2 t (col h c)) := by
      rw [rot_at]
      have h63 : (63#32 : BitVec 32).toNat = 63 := rfl
      have : (s.val + 64 - (63#32 : BitVec 32).toNat % 64) % 64 = t.val := by rw [h63]; omega
      exact row_congr f _ this _
    have e' := hf t s e1 (col h c)
    pointwise [scaled, blk]
    rw [e, e', mul_assoc]
  · rw [put_at]
    split_ifs with hd
    · obtain rfl := onDiag t s hd
      refine Finset.sum_congr rfl fun c _ => ?_
      rw [if_pos le_rfl]
      pointwise [blk]
      rw [hβ, exp_sub_coe, sub_self, Real.exp_zero, EReal.coe_one, mul_one]
    · have hlt : t.val < s.val := by
        rcases offLevels t s with h | h | h | h | h | h | h | h
        · exact h
        all_goals exact absurd h (by assumption)
      rw [scoreS]
      pointwise
      symm
      refine Finset.sum_eq_zero fun c _ => ?_
      rw [if_neg (by omega), Ideal.exp_bot, mul_zero]

/-! ## The head's output and state -/

/-- A stored state read as keys by values. -/
def stOf (st : FVec Ideal S1x128x128 .f32) : St := fun c d => st (ix3 0 d c)

theorem headOut_at (q f k b v : FVec Ideal S64x2048 .f32) (st : FVec Ideal S1x128x128 .f32) (β : Fin 64 → Fin 2048 → ℝ)
    (hβ : RealB b β)
    (hf : ∀ (t s : Fin 64), t.val = s.val + 1 → ∀ c, f (ix2 t c) = Ideal.exp (b (ix2 t c) - b (ix2 s c)))
    (h : Fin 16) (t : Fin 64) (d : Fin 128) :
    headOut q f k b v st h (ix2 t d) = outS (blk h q) (blk h k) (blk h b) (blk h v) (stOf st) t d := by
  pointwise [headOut, scaled, asMat]
  refine Ideal.add_congr (Finset.sum_congr rfl fun u _ => ?_) (Finset.sum_congr rfl fun c _ => ?_)
  · rw [scores_at q f k b β hβ hf h t u, mul_comm]; rfl
  · exact mul_comm _ _

theorem headNext_at (k b v : FVec Ideal S64x2048 .f32) (st : FVec Ideal S1x128x128 .f32) (h : Fin 16) (d c : Fin 128) :
    headNext k b v st h (ix3 0 d c) = nextS (blk h k) (blk h b) (blk h v) (stOf st) c d := by
  pointwise [headNext, scaled, asMat, lastRow]
  refine Ideal.add_congr (mul_comm _ _) (Finset.sum_congr rfl fun u _ => mul_comm _ _)

theorem gated_at (o : FVec Ideal S64x128 .f32) (w : FVec Ideal S1x128 .f32) (g : FVec Ideal S64x128 .f32) (t : Fin 64)
    (d : Fin 128) :
    gated o w g (ix2 t d) = gateS (fun x => o (ix2 t x)) (w (ix2 0 d)) (g (ix2 t d)) d := by
  pointwise [gated, meanSq, gateS]
  rw [zero_sub]

end Cert.HGRN
-- ==== Proof.Gates.lean ====
/- The gates over finite lower bounds: the first layer's share of the softmax is a real between zero and one, so every
   forget gate is a positive real, its logarithm a real, and the running sums of the logarithms reals whose differences
   give the gates back. The kernel's blocks of gates, keys and running sums are those of Recur.lean. -/
module

public import proofs.«01_k».proof.Proof.Cases
public import proofs.«01_k».proof.Proof.Scores
public import Idealize.ShloMosaic.Lib.Pointwise

@[expose] public section

set_option maxRecDepth 16384

noncomputable section

namespace Cert.HGRN

open Idealize.ShloMosaic Idealize.ShloMosaic.TcCoe Cert.KernelIdeal Cert.KernelIdeal.Gen

/-- The greatest of two values, as a fold from the bottom. -/
def top2 (l : Fin 2 → EReal) : EReal := Finset.fold max ⊥ l Finset.univ

/-- Entry `i` of the softmax of two values. -/
def soft2 (l : Fin 2 → EReal) (i : Fin 2) : EReal :=
  Ideal.div (Ideal.exp (l i - top2 l)) (∑ x : Fin 2, Ideal.exp (l x - top2 l))

theorem soft2_real (l : Fin 2 → EReal) (hl : ∀ i, ∃ r : ℝ, l i = (r : EReal)) :
    ∃ p : Fin 2 → ℝ, (∀ i, soft2 l i = (p i : EReal)) ∧ (∀ i, 0 < p i) ∧ p 0 + p 1 = 1 := by
  choose r hr using hl
  have hm : top2 l = ((max (r 0) (r 1) : ℝ) : EReal) := by
    unfold top2
    rw [show (Finset.univ : Finset (Fin 2)) = {0, 1} from rfl, Finset.fold_insert (by decide), Finset.fold_singleton]
    rw [hr 0, hr 1, max_eq_left (bot_le (a := ((r 1 : ℝ) : EReal)))]
    exact (EReal.coe_strictMono.monotone.map_max).symm
  set M := max (r 0) (r 1)
  have he : ∀ i, Ideal.exp (l i - top2 l) = ((Real.exp (r i - M) : ℝ) : EReal) := fun i => by
    rw [hm, hr i, ← EReal.coe_sub, Ideal.exp_coe]
  have hs : ∑ x : Fin 2, Ideal.exp (l x - top2 l) = ((Real.exp (r 0 - M) + Real.exp (r 1 - M) : ℝ) : EReal) := by
    rw [Fin.sum_univ_two, he, he, ← EReal.coe_add]
  have hpos : 0 < Real.exp (r 0 - M) + Real.exp (r 1 - M) := by positivity
  refine ⟨fun i => Real.exp (r i - M) / (Real.exp (r 0 - M) + Real.exp (r 1 - M)), fun i => ?_, fun i => by positivity, ?_⟩
  · unfold soft2
    rw [hs, he, Ideal.div_coe (ne_of_gt hpos)]
    rw [← EReal.coe_mul, mul_one_div]
  · field_simp

/-- The logistic of any value is a real between zero and one. -/
theorem sig_real (z : EReal) : ∃ s : ℝ, Ideal.div 1 (1 + Ideal.exp (-z)) = (s : EReal) ∧ 0 ≤ s ∧ s ≤ 1 := by
  induction z using EReal.rec with
  | bot =>
    refine ⟨0, ?_, le_refl _, zero_le_one⟩
    rw [EReal.neg_bot, Ideal.exp_top]
    rw [show (1 : EReal) + ⊤ = ⊤ from EReal.coe_add_top 1]
    simp [Ideal.div]
  | top =>
    refine ⟨1, ?_, zero_le_one, le_refl _⟩
    rw [EReal.neg_top, Ideal.exp_bot, add_zero]
    have h := Ideal.div_coe (x := 1) (y := 1) one_ne_zero
    simpa using h
  | coe x =>
    have hpos : 0 < 1 + Real.exp (-x) := by positivity
    refine ⟨1 / (1 + Real.exp (-x)), ?_, by positivity, ?_⟩
    · rw [← EReal.coe_neg, Ideal.exp_coe]
      have h := Ideal.div_coe (x := 1) (y := 1 + Real.exp (-x)) (ne_of_gt hpos)
      rw [EReal.coe_add, EReal.coe_one] at h
      rw [h, one_mul]
    · rw [div_le_one hpos]; have := Real.exp_pos (-x); linarith

/-- A forget gate over a share strictly between zero and one is a positive real. -/
theorem gateF_real (lb z : EReal) (p : ℝ) (hp : lb = (p : EReal)) (h0 : 0 < p) (h1 : p < 1) :
    ∃ f : ℝ, gateF lb z = (f : EReal) ∧ 0 < f := by
  obtain ⟨s, hs, s0, s1⟩ := sig_real z
  refine ⟨p + (1 - p) * s, ?_, ?_⟩
  · unfold gateF
    rw [hs, hp, EReal.coe_add, EReal.coe_mul, EReal.coe_sub, EReal.coe_one]
  · have : 0 ≤ (1 - p) * s := mul_nonneg (by linarith) s0
    linarith

/-! ## The running sums -/

/-- The running sums of a real block. -/
def cum (g : Fin 64 → Fin 2048 → ℝ) : Fin 64 → Fin 2048 → ℝ := fun t c => ∑ u : Fin 64, if u.val ≤ t.val then g u c else 0

theorem sum_coe (s : Finset (Fin 64)) (g : Fin 64 → ℝ) : ((∑ u ∈ s, g u : ℝ) : EReal) = ∑ u ∈ s, ((g u : ℝ) : EReal) := by
  classical
  induction s using Finset.induction_on with
  | empty => simp
  | insert a s ha ih => rw [Finset.sum_insert ha, Finset.sum_insert ha, EReal.coe_add, ih]

theorem cum_coe (g : Fin 64 → Fin 2048 → ℝ) (t : Fin 64) (c : Fin 2048) :
    ((cum g t c : ℝ) : EReal) = ∑ u : Fin 64, if u.val ≤ t.val then ((g u c : ℝ) : EReal) else 0 := by
  unfold cum
  rw [sum_coe]
  refine Finset.sum_congr rfl fun u _ => ?_
  split <;> rfl

theorem cum_step (g : Fin 64 → Fin 2048 → ℝ) (t s : Fin 64) (h : t.val = s.val + 1) (c : Fin 2048) :
    cum g t c = cum g s c + g t c := by
  unfold cum
  have e : g t c = ∑ u : Fin 64, if u = t then g u c else 0 := by simp
  rw [e, ← Finset.sum_add_distrib]
  refine Finset.sum_congr rfl fun u _ => ?_
  by_cases h1 : u = t
  · subst h1; simp [h]
  · have h2 : u.val ≠ t.val := fun hh => h1 (Fin.ext hh)
    by_cases h3 : u.val ≤ s.val
    · simp [h1, h3, show u.val ≤ t.val by omega]
    · simp [h1, h3, show ¬u.val ≤ t.val by omega]

/-! ## The kernel's gates, keys and running sums -/

/-- The kernel's share of the softmax at a channel. -/
def lbK (L : FVec Ideal S2x2048 .f32) : Fin 2048 → EReal := fun c => soft2 (fun l => L (ix2 l c)) 1

theorem ofBits_bot : Ideal.ofBits .f32 4286578688#32 = ⊥ := by simp [Ideal.ofBits, Ideal.ieee]

variable (L : FVec Ideal S2x2048 .f32) (z : FVec Ideal S64x2048 .f32)

theorem gate_at (t : Fin 64) (c : Fin 2048) :
    k0_pay3 (F := Ideal) L z (ix2 t c) = gateF (lbK L c) (z (ix2 t c)) := by
  pointwise [k0_pay3]
  rw [ofBits_bot, zero_sub]
  rfl

theorem key_at (t : Fin 64) (c : Fin 2048) :
    k0_pay4 (F := Ideal) L z (ix2 t c) = 1 - gateF (lbK L c) (z (ix2 t c)) := by
  rw [← gate_at]
  pointwise [k0_pay4]

/-- One entry of the lower-triangular matrix of ones. -/
theorem tri_entry (x t : Fin 64) :
    FloatOps.sitofp (F := Ideal) .f32 (BitVec.setWidth 32 (IntOp.cmpi .sle (BitVec.ofNat 32 x.val) (BitVec.ofNat 32 t.val)))
      = if x.val ≤ t.val then (1 : EReal) else 0 := by
  have hx := x.isLt
  have ht := t.isLt
  have h : IntOp.cmpi .sle (BitVec.ofNat 32 x.val) (BitVec.ofNat 32 t.val) = BitVec.ofBool (decide (x.val ≤ t.val)) := by
    revert x t; decide
  rw [h]
  by_cases hu : x.val ≤ t.val
  · simp [hu, FloatOps.sitofp]
  · simp [hu, FloatOps.sitofp]

theorem run_at (hL : ∀ c, ∃ p : ℝ, lbK L c = (p : EReal) ∧ 0 < p ∧ p < 1) (t : Fin 64) (c : Fin 2048) :
    k0_pay5 (F := Ideal) L z (ix2 t c) = ∑ u : Fin 64, if u.val ≤ t.val then Ideal.log (gateF (lbK L c) (z (ix2 u c))) else 0 := by
  have h : k0_pay5 (F := Ideal) L z (ix2 t c) = ∑ u : Fin 64,
      FloatOps.sitofp (F := Ideal) .f32 (BitVec.setWidth 32 (IntOp.cmpi .sle (BitVec.ofNat 32 u.val) (BitVec.ofNat 32 t.val)))
        * Ideal.log (k0_pay3 (F := Ideal) L z (ix2 u c)) := by
    pointwise [k0_pay5]
  rw [h]
  refine Finset.sum_congr rfl fun u _ => ?_
  rw [tri_entry, gate_at]
  split
  · rw [one_mul]
  · rw [zero_mul]

end Cert.HGRN
-- ==== Proof.Blocks.lean ====
/- The kernel's input blocks at a grid point, read off the argument arrays. -/
module

public import proofs.«01_k».proof.Proof.Gen.KernelIdeal.Frame
public import Idealize.ShloMosaic.Lib.Pipeline.ValueKit

@[expose] public section

set_option maxRecDepth 16384

noncomputable section

namespace Cert.HGRN

open Idealize.ShloMosaic Idealize.ShloMosaic.TcCoe Cert.KernelIdeal Cert.KernelIdeal.Gen

/-- The windows' block indices at point `t`: a row block of 64 and a column block of 2048. -/
theorem idx : ∀ t : Fin cfg0.N, win0_0.index t = ![t.val, 3] ∧ win0_1.index t = ![t.val, 4] ∧ win0_2.index t = ![t.val, 5]
    ∧ win0_3.index t = ![t.val, 6] ∧ win0_4.index t = ![0, 0] ∧ win0_5.index t = ![0, 0] ∧ win0_6.index t = ![t.val, 0] :=
  (by decide +kernel : ∀ t : Fin grid0.N, _)

theorem pts (t : Fin cfg0.N) : t.val < 256 := lt_of_lt_of_eq t.isLt N_0

variable (m : (ℓ : Loc nD τ sig) → Buf (Elt Ideal) ℓ) (c : Dev nD) (t : Fin cfg0.N)

theorem blk0 (r : Fin 64) (d : Fin 2048) : iblk m c 0 t (ix2 r d)
    = m ((c : Thread nD τ).loc main_arg0) (ix2 (⟨64 * t.val + r.val, by have := pts t; omega⟩ : Fin 16384) (⟨6144 + d.val, by omega⟩ : Fin 14336)) := by
  blk_ext [iblk, V, idx t]

theorem blk1 (r : Fin 64) (d : Fin 2048) : iblk m c 1 t (ix2 r d)
    = m ((c : Thread nD τ).loc main_arg0) (ix2 (⟨64 * t.val + r.val, by have := pts t; omega⟩ : Fin 16384) (⟨8192 + d.val, by omega⟩ : Fin 14336)) := by
  blk_ext [iblk, V, idx t]

theorem blk2 (r : Fin 64) (d : Fin 2048) : iblk m c 2 t (ix2 r d)
    = m ((c : Thread nD τ).loc main_arg0) (ix2 (⟨64 * t.val + r.val, by have := pts t; omega⟩ : Fin 16384) (⟨10240 + d.val, by omega⟩ : Fin 14336)) := by
  blk_ext [iblk, V, idx t]

theorem blk3 (r : Fin 64) (d : Fin 2048) : iblk m c 3 t (ix2 r d)
    = m ((c : Thread nD τ).loc main_arg0) (ix2 (⟨64 * t.val + r.val, by have := pts t; omega⟩ : Fin 16384) (⟨12288 + d.val, by omega⟩ : Fin 14336)) := by
  blk_ext [iblk, V, idx t]

theorem blk4 : iblk m c 4 t = m ((c : Thread nD τ).loc main_arg1) := by
  blk_ext! [iblk, V, idx t]

theorem blk5 (d : Fin 2048) : iblk m c 5 t (ix2 0 d) = m ((c : Thread nD τ).loc main_arg2) (ix1 d) := by
  blk_simp [iblk, idx t]
  entry_read
  pointwise
  blk_ext [idx t]

end Cert.HGRN
-- ==== Proof.Chunks.lean ====
/- The kernel's grid, point by point: with real shares of the softmax every point leaves in the carried state the
   recurrence's state after its chunk, and in its output block the recurrence's gated outputs; so the result array is the
   recurrence's result. -/
module

public import proofs.«01_k».proof.Proof.Gates
public import proofs.«01_k».proof.Proof.Blocks

@[expose] public section

set_option maxRecDepth 16384

noncomputable section

namespace Cert.HGRN

open Idealize.ShloMosaic Idealize.ShloMosaic.TcCoe Cert.KernelIdeal Cert.KernelIdeal.Gen
open Idealize.ShloMosaic.Pipeline (Dat)

theorem col_chan (h : Fin 16) (c : Fin 128) : col h c = chan h c :=
  Fin.ext (show 128 * h.val + c.val = h.val * 128 + c.val by omega)

/-- Every share of the softmax is a real strictly between zero and one. -/
def Shares (L : FVec Ideal S2x2048 .f32) : Prop := ∀ c, ∃ p : ℝ, lbK L c = (p : EReal) ∧ 0 < p ∧ p < 1

section

variable {L : FVec Ideal S2x2048 .f32} (hL : Shares L) (z : FVec Ideal S64x2048 .f32)

include hL in
/-- The running sums are reals, and a gate is the exponential of the difference of two neighbours. -/
theorem run_real : ∃ β : Fin 64 → Fin 2048 → ℝ, RealB (k0_pay5 (F := Ideal) L z) β ∧
    ∀ (t s : Fin 64), t.val = s.val + 1 → ∀ c, k0_pay3 (F := Ideal) L z (ix2 t c)
      = Ideal.exp (k0_pay5 (F := Ideal) L z (ix2 t c) - k0_pay5 (F := Ideal) L z (ix2 s c)) := by
  have h : ∀ (t : Fin 64) (c : Fin 2048), ∃ f : ℝ, gateF (lbK L c) (z (ix2 t c)) = (f : EReal) ∧ 0 < f := fun t c => by
    obtain ⟨p, hp, h0, h1⟩ := hL c
    exact gateF_real _ _ p hp h0 h1
  choose φ hφ hpos using h
  have hb : RealB (k0_pay5 (F := Ideal) L z) (cum fun t c => Real.log (φ t c)) := fun t c => by
    rw [run_at L z hL t c, cum_coe]
    refine Finset.sum_congr rfl fun u _ => ?_
    split
    · rw [hφ, Ideal.log_coe, if_neg (not_le.mpr (hpos u c))]
    · rfl
  refine ⟨_, hb, fun t s hts c => ?_⟩
  rw [hb t c, hb s c, gate_at, hφ, exp_sub_coe, cum_step _ t s hts c, add_sub_cancel_left, Real.exp_log (hpos t c)]

end

variable (m : (ℓ : Loc nD τ sig) → Buf (Elt Ideal) ℓ) (dv : Dev nD)

/-- The kernel's arguments by row and column. -/
def xK : Fin 16384 → Fin 14336 → EReal := fun r c => m ((dv : Thread nD τ).loc main_arg0) (ix2 r c)
def lK : Fin 2048 → EReal := lbK (m ((dv : Thread nD τ).loc main_arg1))
def wK : Fin 2048 → EReal := fun c => m ((dv : Thread nD τ).loc main_arg2) (ix1 c)

section

variable (t : Fin cfg0.N)

/-- The sequence a point works on, and its chunk there. -/
def seqOf : Fin 2 := ⟨t.val / 128, by have := pts t; omega⟩

theorem row_eq (r : Fin 64) : rowIx (seqOf t) (t.val % 128) r = ⟨64 * t.val + r.val, by have := pts t; omega⟩ := by
  apply Fin.ext
  have := pts t
  unfold rowIx seqOf
  rw [Fin.val_ofNat, Nat.mod_eq_of_lt (by dsimp only; omega)]
  dsimp only
  omega

theorem colIx_eq (base : ℕ) (hb : base + 2048 ≤ 14336) (h : Fin 16) (c : Fin 128) :
    colIx base h c = ⟨base + (chan h c).val, by have := (chan h c).isLt; omega⟩ := by
  apply Fin.ext
  have := (chan h c).isLt
  unfold colIx
  rw [Fin.val_ofNat]
  exact Nat.mod_eq_of_lt (by change h.val * 128 + c.val < 2048 at this; omega)

theorem q_eq (h : Fin 16) : blk h (iblk m dv 0 t) = qB (xK m dv) (seqOf t) h (t.val % 128) := by
  funext r c
  unfold blk qB xK
  rw [col_chan, row_eq, colIx_eq 6144 (by omega)]
  exact blk0 m dv t r (chan h c)

theorem z_eq (r : Fin 64) (h : Fin 16) (c : Fin 128) : iblk m dv 1 t (ix2 r (chan h c)) = xK m dv (rowIx (seqOf t) (t.val % 128) r) (colIx 8192 h c) := by
  unfold xK
  rw [row_eq, colIx_eq 8192 (by omega)]
  exact blk1 m dv t r (chan h c)

theorem v_eq (h : Fin 16) : blk h (iblk m dv 2 t) = vB (xK m dv) (seqOf t) h (t.val % 128) := by
  funext r c
  unfold blk vB xK
  rw [col_chan, row_eq, colIx_eq 10240 (by omega)]
  exact blk2 m dv t r (chan h c)

theorem k_eq (h : Fin 16) : blk h (k0_pay4 (F := Ideal) (m ((dv : Thread nD τ).loc main_arg1)) (iblk m dv 1 t))
    = kB (lK m dv) (xK m dv) (seqOf t) h (t.val % 128) := by
  funext r c
  unfold blk kB fB
  rw [key_at, col_chan, z_eq]
  rfl

theorem b_eq (hL : Shares (m ((dv : Thread nD τ).loc main_arg1))) (h : Fin 16) :
    blk h (k0_pay5 (F := Ideal) (m ((dv : Thread nD τ).loc main_arg1)) (iblk m dv 1 t))
      = bB (lK m dv) (xK m dv) (seqOf t) h (t.val % 128) := by
  funext r c
  unfold blk bB fB
  rw [run_at _ _ hL, col_chan]
  refine Finset.sum_congr rfl fun u _ => ?_
  rw [z_eq]
  rfl

theorem g_eq (r : Fin 64) (h : Fin 16) (c : Fin 128) : outH (F := Ideal) (iblk m dv 3 t) h (ix2 r c)
    = xK m dv (rowIx (seqOf t) (t.val % 128) r) (Fin.ofNat 14336 (12288 + (chan h c).val)) := by
  have e : (rOut h).idx (ix2 r c) = ix2 r (chan h c) := by
    funext a
    apply Fin.ext
    refine (Rect.idx_unit_val _ _ _ _ a).trans ?_
    fin_cases a
    · exact Nat.zero_add _
    · show 128 * h.val + c.val = h.val * 128 + c.val
      omega
  have ec : (Fin.ofNat 14336 (12288 + (chan h c).val)) = (⟨12288 + (chan h c).val, by have := (chan h c).isLt; omega⟩ : Fin 14336) := by
    apply Fin.ext
    rw [Fin.val_ofNat]
    exact Nat.mod_eq_of_lt (by have := (chan h c).isLt; omega)
  unfold xK outH
  rw [row_eq, ec, e]
  exact blk3 m dv t r (chan h c)

theorem w_eq (h : Fin 16) (c : Fin 128) : normH (F := Ideal) (iblk m dv 5 t) h (ix2 0 c) = wK m dv (chan h c) := by
  have e : (rNorm h).idx (ix2 0 c) = ix2 0 (chan h c) := by
    funext a
    apply Fin.ext
    refine (Rect.idx_unit_val _ _ _ _ a).trans ?_
    fin_cases a
    · rfl
    · show 128 * h.val + c.val = h.val * 128 + c.val
      omega
  unfold wK normH
  rw [e]
  exact blk5 m dv t (chan h c)

theorem stOf_eq (S : FVec Ideal S16x128x128 .f32) (h : Fin 16) (j : ℕ)
    (hS : ∀ d e, S (ix3 h d e) = stS (lK m dv) (xK m dv) (seqOf t) h j e d) :
    stOf (stH S h) = stS (lK m dv) (xK m dv) (seqOf t) h j := by
  funext c d
  rw [← hS]
  unfold stOf stH
  rw [rSt_idx]
  rfl

variable (hL : Shares (m ((dv : Thread nD τ).loc main_arg1)))

include hL in
/-- What a point leaves in a head's state, over a state that is the recurrence's. -/
theorem point_st (S : FVec Ideal S16x128x128 .f32) (h : Fin 16)
    (hS : ∀ d e, S (ix3 h d e) = stS (lK m dv) (xK m dv) (seqOf t) h (t.val % 128) e d) (d e : Fin 128) :
    stPay (F := Ideal) (iblk m dv 1 t) (iblk m dv 2 t) (iblk m dv 4 t) (stH S h) h (ix3 0 d e)
      = stS (lK m dv) (xK m dv) (seqOf t) h (t.val % 128 + 1) e d := by
  unfold stPay
  rw [blk4, headNext_at, k_eq, b_eq m dv t hL, v_eq, stOf_eq m dv t S h _ hS]
  rfl

include hL in
/-- What a point leaves in a head's output block, over a state that is the recurrence's. -/
theorem point_out (S : FVec Ideal S16x128x128 .f32) (h : Fin 16)
    (hS : ∀ d e, S (ix3 h d e) = stS (lK m dv) (xK m dv) (seqOf t) h (t.val % 128) e d) (r : Fin 64) (d : Fin 128) :
    outPay (F := Ideal) (iblk m dv 0 t) (iblk m dv 1 t) (iblk m dv 2 t) (iblk m dv 4 t) (outH (iblk m dv 3 t) h)
        (normH (iblk m dv 5 t) h) (stH S h) h (ix2 r d)
      = gateS (oS (lK m dv) (xK m dv) (seqOf t) h (t.val % 128) r) (wK m dv (chan h d))
          (xK m dv (rowIx (seqOf t) (t.val % 128) r) (Fin.ofNat 14336 (12288 + (chan h d).val))) d := by
  obtain ⟨β, hβ, hf⟩ := run_real hL (iblk m dv 1 t)
  unfold outPay
  rw [blk4, gated_at, w_eq, g_eq]
  have ho : (fun x => headOut (F := Ideal) (iblk m dv 0 t) (k0_pay3 (m ((dv : Thread nD τ).loc main_arg1)) (iblk m dv 1 t))
      (k0_pay4 (m ((dv : Thread nD τ).loc main_arg1)) (iblk m dv 1 t)) (k0_pay5 (m ((dv : Thread nD τ).loc main_arg1)) (iblk m dv 1 t))
      (iblk m dv 2 t) (stH S h) h (ix2 r x)) = oS (lK m dv) (xK m dv) (seqOf t) h (t.val % 128) r := by
    funext x
    rw [headOut_at _ _ _ _ _ _ β hβ hf, q_eq, k_eq, b_eq m dv t hL, v_eq, stOf_eq m dv t S h _ hS]
    rfl
  rw [ho]

end

/-! ## The points in order -/

variable (hL : Shares (m ((dv : Thread nD τ).loc main_arg1)))

theorem zeros_at (h : Fin 16) (d e : Fin 128) : k0_pay2 (F := Ideal) (ix3 h d e) = 0 := by
  pointwise [k0_pay2]

include hL in
/-- After point `n` the carried state is the recurrence's after that point's chunk. -/
theorem state_after : ∀ (n : ℕ) (hn : n < cfg0.N) (h : Fin 16) (d e : Fin 128),
    (outsAt0 m dv n hn).2 (ix3 h d e) = stS (lK m dv) (xK m dv) (seqOf ⟨n, hn⟩) h (n % 128 + 1) e d := by
  intro n
  induction n with
  | zero =>
    intro hn h d e
    rw [outsAt0_A m dv ⟨0, hn⟩ rfl]
    dsimp only
    rw [st_A]
    exact point_st m dv ⟨0, hn⟩ hL _ h (fun d e => zeros_at h d e) d e
  | succ n ih =>
    intro hn h d e
    by_cases h0 : (n + 1) % 128 = 0
    · rw [outsAt0_A m dv ⟨n + 1, hn⟩ h0]
      dsimp only
      rw [st_A]
      exact point_st m dv ⟨n + 1, hn⟩ hL _ h (fun d e => by rw [zeros_at, show (n + 1) % 128 = 0 from h0]; rfl) d e
    · rw [outsAt0_B m dv ⟨n + 1, hn⟩ h0]
      dsimp only
      rw [st_B]
      refine point_st m dv ⟨n + 1, hn⟩ hL _ h (fun d e => ?_) d e
      refine (ih (Nat.lt_of_succ_lt hn) h d e).trans ?_
      rw [show (n + 1) % 128 = n % 128 + 1 by omega,
        show seqOf ⟨n, Nat.lt_of_succ_lt hn⟩ = seqOf ⟨n + 1, hn⟩ from Fin.ext (show n / 128 = (n + 1) / 128 by omega)]

include hL in
/-- The state a point works from, and its output block. -/
theorem out_after (t : Fin cfg0.N) (h : Fin 16) (r : Fin 64) (d : Fin 128) :
    (outsAt0 m dv t.val t.isLt).1 (ix2 r (chan h d))
      = gateS (oS (lK m dv) (xK m dv) (seqOf t) h (t.val % 128) r) (wK m dv (chan h d))
          (xK m dv (rowIx (seqOf t) (t.val % 128) r) (Fin.ofNat 14336 (12288 + (chan h d).val))) d := by
  by_cases h0 : t.val % 128 = 0
  · rw [outsAt0_A m dv t h0]
    dsimp only
    rw [out_A]
    exact point_out m dv t hL _ h (fun d e => by rw [zeros_at, h0]; rfl) r d
  · rw [outsAt0_B m dv t h0]
    dsimp only
    rw [out_B]
    refine point_out m dv t hL _ h (fun d e => ?_) r d
    have hp : 0 < t.val := Nat.pos_of_ne_zero fun hh => h0 (by rw [hh])
    refine (state_after m dv hL (t.val - 1) _ h d e).trans ?_
    have ht := pts t
    rw [show (t.val - 1) % 128 + 1 = t.val % 128 by omega,
      show seqOf ⟨t.val - 1, Nat.lt_of_le_of_lt (Nat.sub_le _ _) t.isLt⟩ = seqOf t from
        Fin.ext (show (t.val - 1) / 128 = t.val / 128 by omega)]

/-- The recurrence's result at a row and channel of a point's block. -/
theorem res_at (t : Fin cfg0.N) (r : Fin 64) (cc : Fin 2048) :
    resS (lK m dv) (xK m dv) (wK m dv) ⟨64 * t.val + r.val, by have := pts t; omega⟩ cc
      = gateS (oS (lK m dv) (xK m dv) (seqOf t) ⟨cc.val / 128, by omega⟩ (t.val % 128) r) (wK m dv cc)
          (xK m dv (rowIx (seqOf t) (t.val % 128) r) (Fin.ofNat 14336 (12288 + cc.val))) ⟨cc.val % 128, by omega⟩ := by
  unfold resS
  have ht := pts t
  rw [row_eq]
  have e1 : (⟨(64 * t.val + r.val) / 8192, by omega⟩ : Fin 2) = seqOf t := Fin.ext (show (64 * t.val + r.val) / 8192 = t.val / 128 by omega)
  have e2 : (64 * t.val + r.val) % 8192 / 64 = t.val % 128 := by omega
  have e3 : (⟨(64 * t.val + r.val) % 8192 % 64, by omega⟩ : Fin 64) = r := Fin.ext (show (64 * t.val + r.val) % 8192 % 64 = r.val by omega)
  dsimp only
  rw [e1, e2, e3]

include hL in
/-- What a point leaves in its output block is the recurrence's result there. -/
theorem block_at (t : Fin cfg0.N) (r : Fin 64) (cc : Fin 2048) :
    (outsAt0 m dv t.val t.isLt).1 (ix2 r cc)
      = resS (lK m dv) (xK m dv) (wK m dv) ⟨64 * t.val + r.val, by have := pts t; omega⟩ cc := by
  have e : cc = chan ⟨cc.val / 128, by omega⟩ ⟨cc.val % 128, by omega⟩ :=
    Fin.ext (show cc.val = cc.val / 128 * 128 + cc.val % 128 by omega)
  rw [res_at]
  have h := out_after m dv hL t ⟨cc.val / 128, by omega⟩ r ⟨cc.val % 128, by omega⟩
  rw [← e] at h
  exact h

include hL in
/-- The result array after the run. -/
theorem final : (dats m 0 dv).arrAt 6 (cfgs 0).N = fun i => resS (lK m dv) (xK m dv) (wK m dv) (i 0) (i 1) := by
  refine (dats m 0 dv).arrAt_eq_of_covers 6 _ (by decide +kernel) fun t _ y => ?_
  blk_simp
  rw [after0_6]
  have hy : y = ix2 (y 0) (y 1) := by funext a; fin_cases a <;> rfl
  rw [hy]
  refine (block_at m dv hL t (y 0) (y 1)).trans ?_
  congr 1
  · apply Fin.ext
    blk_simp [idx t]
    exact congrArg (· + _) (Nat.mul_comm _ _)
  · apply Fin.ext
    blk_simp [idx t]

end Cert.HGRN
-- ==== Proof.Share.lean ====
/- Over finite lower bounds the reference's share of the softmax is the kernel's: the reference takes the difference of
   the running sum of both shares and the first one. -/
module

public import proofs.«01_k».proof.Proof.RefRead
public import proofs.«01_k».proof.Proof.Chunks

@[expose] public section

set_option maxRecDepth 16384

noncomputable section

namespace Cert.HGRN

open Idealize.ShloMosaic Cert.ReferenceIdeal.Step Cert.HGRN.Ref

variable (a0 : FVec Ideal Cert.ReferenceIdeal.S16384x14336 .f32) (a1 : FVec Ideal Cert.ReferenceIdeal.S2x2048 .f32)

/-- Every lower bound is a real. -/
def Finite : Prop := ∀ (l : Fin 2) (c : Fin 2048), ∃ r : ℝ, a1 (ix2 l c) = (r : EReal)

theorem softmax_at (l : Fin 2) (c : Fin 2048) :
    A_main_v16 (F := Ideal) a0 a1 (ix2 l c) = soft2 (fun i => a1 (ix2 i c)) l := by
  pointwise [A_main_v16, A_main_v15, A_main_v14, A_main_v13, A_main_v12, A_main_v11, A_main_v10, A_main_v9, A_main_v8, A_main_v6, K_main_v7, K_main_cst_0, K_main_cst, K_main_cst_1]
  rw [HGRN.ofBits_bot, max_eq_right (bot_le)]
  rfl

theorem shares_of_finite (h : Finite a1) : Shares a1 := fun c => by
  obtain ⟨p, hp, h0, h1⟩ := soft2_real (fun i => a1 (ix2 i c)) (fun i => h i c)
  exact ⟨p 1, hp 1, h0 1, by have := h0 0; linarith⟩

theorem share_eq (h : Finite a1) : lbOf a0 a1 = lbK a1 := by
  funext c
  obtain ⟨p, hp, h0, h1⟩ := soft2_real (fun i => a1 (ix2 i c)) (fun i => h i c)
  have e : A_main_v22 (F := Ideal) a0 a1 (ix1 c) = A_main_v17 (F := Ideal) a0 a1 (ix2 1 c) - A_main_v17 (F := Ideal) a0 a1 (ix2 0 c) := by
    pointwise [A_main_v22, A_main_v21, A_main_v20, A_main_v19, A_main_v18]
  have hc := cumsum_layers (A_main_v16 (F := Ideal) a0 a1) (K_main_call0_call0_v0 (F := Ideal)) (by pointwise [K_main_call0_call0_v0, K_main_call0_call0_cst]) c
  have e0 : A_main_v17 (F := Ideal) a0 a1 (ix2 0 c) = A_main_v16 (F := Ideal) a0 a1 (ix2 0 c) := hc.1
  have e1 : A_main_v17 (F := Ideal) a0 a1 (ix2 1 c) = A_main_v16 (F := Ideal) a0 a1 (ix2 0 c) + A_main_v16 (F := Ideal) a0 a1 (ix2 1 c) := hc.2
  unfold lbOf lbK
  rw [e, e1, e0, softmax_at, softmax_at, hp 0, hp 1, ← EReal.coe_add, ← EReal.coe_sub, add_sub_cancel_left]

end Cert.HGRN
-- ==== Proof.Finite.lean ====
/- What the precondition says of the lower bounds: each of them is a real. -/
module

public import proofs.«01_k».proof.Pre_finite_bounds
public import proofs.«01_k».proof.Proof.Share
public import Idealize.ShloMosaic.Lib.ReduceAll

@[expose] public section

set_option maxRecDepth 16384

noncomputable section

namespace Cert.HGRN

open Idealize.ShloMosaic

instance preFacts : Cert.Pre_finite_bounds.Facts where
  bcast_S_S2x2048 := by decide
  reducesTo_S2x2048_S_d0_1 := by decide
  h_S_ := by decide

theorem ofBits_top : Ideal.ofBits .f32 2139095040#32 = ⊤ := by simp [Ideal.ofBits, Ideal.ieee]

theorem real_of_abs_lt (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

theorem finite_of_pre (a0 : FVec Ideal Cert.Pre_finite_bounds.S16384x14336 .f32) (a1 : FVec Ideal Cert.Pre_finite_bounds.S2x2048 .f32)
    (a2 : FVec Ideal Cert.Pre_finite_bounds.S2048 .f32) (h : Cert.Pre_finite_bounds.fn (F := Ideal) a0 a1 a2 = fun _ => 1#1) :
    Finite a1 := fun l c => by
  have hs : Subsingleton Cert.Pre_finite_bounds.S_.Idx := ⟨fun x y => funext fun a => a.elim0⟩
  have e := congrFun h ix0
  unfold Cert.Pre_finite_bounds.fn at e
  have e1 := Host.reduce_andi_all _ _ _ _ _ e (ix2 l c)
  refine real_of_abs_lt _ ?_
  rw [← ofBits_top]
  exact e1

end Cert.HGRN
-- ==== Proof.Algebraic.lean ====
/- The value claim: over finite lower bounds the kernel's run and the reference's leave the same result. -/
module

public import proofs.«01_k».proof.Defs
public import proofs.«01_k».proof.Proof.Finite
public import proofs.«01_k».proof.Proof.Gen.KernelIdeal.Value

@[expose] public section

set_option maxRecDepth 16384

noncomputable section

namespace Cert.HGRN

open Idealize.ShloMosaic Idealize.SL.Sem

theorem algebraic : Cert.algebraic_KernelIdeal_ReferenceIdeal_pre_finite_bounds := fun m g m' g' hpre hargs => by
  have hfin : ∀ c : Dev Cert.KernelIdeal.nD, Finite (m ((c.tc : Thread Cert.KernelIdeal.nD Cert.KernelIdeal.τ).loc Cert.KernelIdeal.main_arg1)) := fun c =>
    finite_of_pre _ _ _ (hpre c)
  refine ⟨fun c => fun i => resS (lK m c) (xK m c) (wK m c) (i 0) (i 1), ?_, ?_⟩
  · refine (θ_run Cert.KernelIdeal.defs _ _).mono (fun r h c => ⟨(h c).1.trans ?_, (h c).2⟩) (Cert.KernelIdeal.Value.run_blocks (F := Ideal) m g)
    exact final m c (shares_of_finite _ (hfin c))
  · refine (θ_run Cert.ReferenceIdeal.defs _ _).mono (fun r h c => ⟨(h c).1.trans ?_, (h c).2⟩)
      (Cert.HGRN.Ref.run_state (F := Ideal) m' g')
    obtain ⟨h0, h1, h2⟩ := hargs c
    rw [h0, h1, h2]
    funext i
    have hi : i = ix2 (i 0) (i 1) := by funext a; fin_cases a <;> rfl
    rw [hi]
    refine (Cert.HGRN.Ref.result_at _ _ _ (i 0) (i 1)).trans ?_
    rw [share_eq _ _ (hfin c)]
    rfl

end Cert.HGRN
-- ==== Proof.FfnUp.lean ====
/- The FFN's first product under its SwiGLU gate, with the second weight's cast: the two arrays the kernel leaves are the reference's. -/
module

public import proofs.«01_k».proof.Proof.Gen.Kernel2Ideal.Frame
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.FfnUp

open Cert.Kernel2Ideal Cert.Kernel2Ideal.Gen
open Idealize.ShloMosaic Idealize.ShloMosaic.TcCoe Idealize.SL.Sem

/-- The kernel writes a number's negative as zero less the number. -/
theorem neg_eq (x : EReal) : 0 - x = -x := by rw [sub_eq_add_neg, zero_add]

variable (m : (ℓ : Loc nD τ sig) → Buf (Elt Ideal) ℓ)

/-- The reference's activations as a function of its arguments: the product's first half times its sigmoid, times the
    product's second half. -/
abbrev targetAct (u : FVec Ideal Cert.Reference2Ideal.S16384x4096 .bf16) (w : FVec Ideal Cert.Reference2Ideal.S2x4096x22016 .f32) :
    FVec Ideal Cert.Reference2Ideal.S16384x11008 .bf16 :=
  truncf .bf16 (mulf (mulf (extractStridedSlice Cert.Reference2Ideal.S16384x11008 ![0, 0] (Host.dotGeneral
    Cert.Reference2Ideal.dot_S16384x4096_S4096x22016_S16384x22016_1_0_0_1_n_n none (extf .f32 u
    Cert.Reference2Ideal.Gen.bitsLt_bf16_f32) (shapeCast _ (extractStridedSlice Cert.Reference2Ideal.S1x4096x22016
    ![1, 0, 0] w Cert.Reference2Ideal.Gen.slices_S2x4096x22016_S1x4096x22016_1_0_0)
    Cert.Reference2Ideal.Gen.shapeCasts_S1x4096x22016_S4096x22016))
    Cert.Reference2Ideal.Gen.slices_S16384x22016_S16384x11008_0_0) (Host.divf (broadcastInDim
    Cert.Reference2Ideal.S16384x11008 ![] Cert.Reference2Ideal.Gen.bcast_S_S16384x11008 (constant
    Cert.Reference2Ideal.S_ .f32 0x3F800000#32)) (addf (broadcastInDim Cert.Reference2Ideal.S16384x11008 ![]
    Cert.Reference2Ideal.Gen.bcast_S_S16384x11008 (constant Cert.Reference2Ideal.S_ .f32 0x3F800000#32)) (Host.exp
    (Host.negf (extractStridedSlice Cert.Reference2Ideal.S16384x11008 ![0, 0] (Host.dotGeneral
    Cert.Reference2Ideal.dot_S16384x4096_S4096x22016_S16384x22016_1_0_0_1_n_n none (extf .f32 u
    Cert.Reference2Ideal.Gen.bitsLt_bf16_f32) (shapeCast _ (extractStridedSlice Cert.Reference2Ideal.S1x4096x22016
    ![1, 0, 0] w Cert.Reference2Ideal.Gen.slices_S2x4096x22016_S1x4096x22016_1_0_0)
    Cert.Reference2Ideal.Gen.shapeCasts_S1x4096x22016_S4096x22016))
    Cert.Reference2Ideal.Gen.slices_S16384x22016_S16384x11008_0_0)))))) (extractStridedSlice
    Cert.Reference2Ideal.S16384x11008 ![0, 11008] (Host.dotGeneral
    Cert.Reference2Ideal.dot_S16384x4096_S4096x22016_S16384x22016_1_0_0_1_n_n none (extf .f32 u
    Cert.Reference2Ideal.Gen.bitsLt_bf16_f32) (shapeCast _ (extractStridedSlice Cert.Reference2Ideal.S1x4096x22016
    ![1, 0, 0] w Cert.Reference2Ideal.Gen.slices_S2x4096x22016_S1x4096x22016_1_0_0)
    Cert.Reference2Ideal.Gen.shapeCasts_S1x4096x22016_S4096x22016))
    Cert.Reference2Ideal.Gen.slices_S16384x22016_S16384x11008_0_11008)) Cert.Reference2Ideal.Gen.bitsLt_bf16_f32

/-- The reference's second result: the second layer's down weight, cut into column tiles. -/
abbrev targetCast (wd : FVec Ideal Cert.Reference2Ideal.S2x11008x4096 .f32) :
    FVec Ideal Cert.Reference2Ideal.S8x11008x512 .bf16 :=
  truncf .bf16 (transpose Cert.Reference2Ideal.S8x11008x512 [1, 0, 2] (shapeCast _ (shapeCast _ (extractStridedSlice
    Cert.Reference2Ideal.S1x11008x4096 ![1, 0, 0] wd
    Cert.Reference2Ideal.Gen.slices_S2x11008x4096_S1x11008x4096_1_0_0)
    Cert.Reference2Ideal.Gen.shapeCasts_S1x11008x4096_S11008x4096)
    Cert.Reference2Ideal.Gen.shapeCasts_S11008x4096_S11008x8x512)
    Cert.Reference2Ideal.Gen.transposes_S11008x8x512_S8x11008x512_1_0_2) Cert.Reference2Ideal.Gen.bitsLt_bf16_f32

/-- Where each window lies at each point: point `t` takes row tile `t / 43` and column tile `t % 43`, the gate's columns
    43 tiles further, and casts slice `t` of 32 rows of the down weight. -/
theorem places : ∀ t : Fin cfg0.N, win0_0.index t = ![t.val / 43, 0] ∧ win0_1.index t = ![1, 0, t.val % 43]
    ∧ win0_2.index t = ![1, 0, t.val % 43 + 43] ∧ win0_3.index t = ![1, t.val, 0]
    ∧ win0_4.index t = ![t.val / 43, t.val % 43] ∧ win0_5.index t = ![0, t.val, 0] :=
  (by decide +kernel : ∀ t : Fin grid0.N, _)

set_option maxHeartbeats 1600000 in
/-- What a point leaves in the activations' buffer, store by store of 128 rows, is the target's tile there. -/
theorem tileAct (c : Dev nD) (t : Fin cfg0.N) (y) : out0_4 (iblk m c 0 t) (iblk m c 1 t) (iblk m c 2 t) (iblk m c 3 t) y
    = targetAct (m ((c : Thread nD τ).loc main_arg0)) (m ((c : Thread nD τ).loc main_arg1))
      (((cfg0.win 4).blk t).view.emb y) := by
  canon_tiles x h
  all_goals
    open_payloads
    pointwise [targetAct]
    simp only [neg_eq]
    blk_point [iblk, V, places t]

set_option maxHeartbeats 1600000 in
/-- What a point leaves in the cast weight's buffer, store by store of one column tile, is the target's block there. -/
theorem tileCast (c : Dev nD) (t : Fin cfg0.N) (y) : out0_5 (iblk m c 0 t) (iblk m c 1 t) (iblk m c 2 t) (iblk m c 3 t) y
    = targetCast (m ((c : Thread nD τ).loc main_arg2)) (((cfg0.win 5).blk t).view.emb y) := by
  canon_tiles x h
  all_goals
    open_payloads
    pointwise [targetCast]
    blk_point [iblk, V, places t]

/-- The activations after the run is the target. -/
theorem resultAct (c : Dev nD) : (dats m 0 c).arrAt 4 cfg0.N
    = targetAct (m ((c : Thread nD τ).loc main_arg0)) (m ((c : Thread nD τ).loc main_arg1)) := by
  refine (dats m 0 c).arrAt_eq_of_covers 4 _ (by decide +kernel) fun t _ y => ?_
  blk_simp
  rw [after0_4]
  exact tileAct m c t y

/-- The cast weight after the run is the target. -/
theorem resultCast (c : Dev nD) : (dats m 0 c).arrAt 5 cfg0.N
    = targetCast (m ((c : Thread nD τ).loc main_arg2)) := by
  refine (dats m 0 c).arrAt_eq_of_covers 5 _ (by decide +kernel) fun t _ y => ?_
  blk_simp
  rw [after0_5]
  exact tileCast m c t y

end Cert.FfnUp

end
-- ==== Proof.FfnDown.lean ====
/- The FFN's second product: the array the kernel leaves is the reference's. -/
module

public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.FfnDown

open Cert.Kernel3Ideal Cert.Kernel3Ideal.Gen
open Idealize.ShloMosaic Idealize.ShloMosaic.TcCoe Idealize.SL.Sem

variable (m : (ℓ : Loc nD τ sig) → Buf (Elt Ideal) ℓ)

/-- The reference's result as a function of its two arguments: the weight's column tiles are put side by side to
    the [11008, 4096] matrix they were cut from, and the activations are multiplied by it. -/
abbrev target (x : FVec Ideal Cert.Reference3Ideal.S16384x11008 .bf16) (w : FVec Ideal Cert.Reference3Ideal.S8x11008x512 .bf16) :
    FVec Ideal Cert.Reference3Ideal.S16384x4096 .bf16 :=
  truncf .bf16 (Host.dotGeneral Cert.Reference3Ideal.dot_S16384x11008_S11008x4096_S16384x4096_1_0_0_1_n_n none
    (extf .f32 x Cert.Reference3Ideal.Gen.bitsLt_bf16_f32)
    (shapeCast _ (transpose Cert.Reference3Ideal.S11008x8x512 [1, 0, 2] (extf .f32 w Cert.Reference3Ideal.Gen.bitsLt_bf16_f32)
      Cert.Reference3Ideal.Gen.transposes_S8x11008x512_S11008x8x512_1_0_2)
      Cert.Reference3Ideal.Gen.shapeCasts_S11008x8x512_S11008x4096)) Cert.Reference3Ideal.Gen.bitsLt_bf16_f32

/-- Where each window lies at each point: point `t` takes row tile `t / 8` and column tile `t % 8`. -/
theorem places : ∀ t : Fin cfg0.N, win0_0.index t = ![t.val / 8, 0] ∧ win0_1.index t = ![t.val % 8, 0, 0]
    ∧ win0_2.index t = ![t.val / 8, t.val % 8] :=
  (by decide +kernel : ∀ t : Fin grid0.N, _)

/-- One point's tile is the target's tile there. -/
theorem tile (c : Dev nD) (t : Fin cfg0.N) (y) : k0_pay1 (iblk m c 1 t) (iblk m c 0 t) y
    = target (m ((c : Thread nD τ).loc main_arg0)) (m ((c : Thread nD τ).loc main_arg1)) (((cfg0.win 2).blk t).view.emb y) := by
  pointwise [k0_pay1, target]
  blk_point [iblk, V, places t]

/-- The result array after the run is the target. -/
theorem result (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile m c t y

end Cert.FfnDown

end
-- ==== Proof.InProjRun.lean ====
/- The mixers' input projection, run: what its body leaves at each grid point, and the frame.

   The body multiplies its row tile by one window of 512 rows of the transposed weight at every point. At the first
   point of each row tile (`t % 28 = 0`) it also multiplies by the window of the 16 gate rows, into a second output
   that the 27 later points of the row tile leave alone and that is written back at the last of them. So the second
   output's buffer is carried through points at which nothing is stored into it. -/
module

public import proofs.«01_k».proof.Proof.Gen.Kernel4Ideal.Frame
public import Idealize.ShloMosaic.Lib.Pipeline.ValueKit
public import Idealize.ShloMosaic.Lib.Pipeline.TableIdle
public import Idealize.ShloMosaic.Lib.Exec

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's arithmetic -/

/-- A row tile times the window of 16 gate rows. -/
def gates (x : Vec F S2048x4096 .bf16) (w : Vec F S1x16x4096 .f32) : FVec F S2048x16 .f32 :=
  matmul dot_S2048x4096_S16x4096_S2048x16_1_1_0_0_n_n none x
    (truncf .bf16 (shapeCast S16x4096 w shapeCasts_S1x16x4096_S16x4096) bitsLt_bf16_f32)
    (constant S2048x16 .f32 0x00000000#32)

/-- A row tile times one window of 512 rows. -/
def proj (x : Vec F S2048x4096 .bf16) (w : Vec F S1x512x4096 .f32) : FVec F S2048x512 .f32 :=
  matmul dot_S2048x4096_S512x4096_S2048x512_1_1_0_0_n_n none x
    (truncf .bf16 (shapeCast S512x4096 w shapeCasts_S1x512x4096_S512x4096) bitsLt_bf16_f32)
    (constant S2048x512 .f32 0x00000000#32)

/-! ## The rectangles the body reads and writes: whole buffers -/

abbrev rX : Rect S2048x4096 := Rect.unit (s := S2048x4096) ![0, 0] S2048x4096.size inb_S2048x4096_S2048x4096_0_0
abbrev rW : Rect S1x512x4096 := Rect.unit (s := S1x512x4096) ![0, 0, 0] S1x512x4096.size inb_S1x512x4096_S1x512x4096_0_0_0
abbrev rG : Rect S1x16x4096 := Rect.unit (s := S1x16x4096) ![0, 0, 0] S1x16x4096.size inb_S1x16x4096_S1x16x4096_0_0_0
abbrev rP : Rect S2048x512 := Rect.unit (s := S2048x512) ![0, 0] S2048x512.size inb_S2048x512_S2048x512_0_0
abbrev rO : Rect S2048x16 := Rect.unit (s := S2048x16) ![0, 0] S2048x16.size inb_S2048x16_S2048x16_0_0

/-- A load of a whole buffer reads it. -/
theorem ld_tile (x : Vec F S2048x4096 .bf16) : View.ld x rX = x := View.ld_unit_lit _ _ (by decide)
theorem ld_rows (w : Vec F S1x512x4096 .f32) : View.ld w rW = w := View.ld_unit_lit _ _ (by decide)
theorem ld_gates (w : Vec F S1x16x4096 .f32) : View.ld w rG = w := View.ld_unit_lit _ _ (by decide)

/-- The one store into the first output covers its buffer and leaves its payload. -/
theorem stored_proj (v : View sig .tc .vmem S2048x512 .f32) (f : v.ty.Contents (Elt F)) (p : Vec F S2048x512 .f32) :
    v.read (Elt F) (v.writes (Elt F) f [⟨rP, p⟩]) = p :=
  (View.read_writes_eq_canon _ _ _ fun y => View.cover_of_tiled [⟨rP, p⟩] S2048x512.size (by rfl) y).trans
    (View.canon_cons_unit_lit _ _ _ (by decide))

/-- The one store into the second output covers its buffer and leaves its payload. -/
theorem stored_gates (v : View sig .tc .vmem S2048x16 .f32) (f : v.ty.Contents (Elt F)) (p : Vec F S2048x16 .f32) :
    v.read (Elt F) (v.writes (Elt F) f [⟨rO, p⟩]) = p :=
  (View.read_writes_eq_canon _ _ _ fun y => View.cover_of_tiled [⟨rO, p⟩] S2048x16.size (by rfl) y).trans
    (View.canon_cons_unit_lit _ _ _ (by decide))

/-! ## The body's triple, with the gates and without -/

set_option maxHeartbeats 1000000 in
/-- At the first point of a row tile the body leaves both products, whatever the outputs' buffers held. -/
theorem body_first (c : Dev nD) (i : grid0.Coords) (arg2 : Memref sig .tc .vmem S2048x4096 .bf16) (harg2 : arg2.IsWhole)
    (arg3 : Memref sig .tc .vmem S1x512x4096 .f32) (harg3 : arg3.IsWhole) (arg4 : Memref sig .tc .vmem S1x16x4096 .f32) (harg4 : arg4.IsWhole)
    (arg5 : Memref sig .tc .vmem S2048x512 .f32) (harg5 : arg5.IsWhole) (arg6 : Memref sig .tc .vmem S2048x16 .f32) (harg6 : arg6.IsWhole)
    (hc : k0_cond1 i = 1#1) (x0 : Vec F S2048x4096 .bf16) (x1 : Vec F S1x512x4096 .f32) (x2 : Vec F S1x16x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (proj x0 x1) ∗ owns (c : Thread nD τ) arg6 fullShare (gates x0 x2)) -∗ K ⟨⟩))
      ⊢ wp frame (wpE (defs₀ (F := F)) Variants.none c none) E (cc0_mix_in_proj i arg2 harg2 arg3 harg3 arg4 harg4 arg5 harg5 arg6 harg6) K := by
  unfold cc0_mix_in_proj
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (stored_proj _ _ _).trans ?_
    refine Eq.trans ?_ (congrArg₂ proj (ld_tile _) (ld_rows _))
    rfl
  iexists _; isplitr
  swap; · iexact H4
  ipureintro
  refine (stored_gates _ _ _).trans ?_
  refine Eq.trans ?_ (congrArg₂ gates (ld_tile _) (ld_gates _))
  rfl

set_option maxHeartbeats 1000000 in
/-- At a later point of a row tile the body leaves the first product, and the second output's buffer as it was. -/
theorem body_later (c : Dev nD) (i : grid0.Coords) (arg2 : Memref sig .tc .vmem S2048x4096 .bf16) (harg2 : arg2.IsWhole)
    (arg3 : Memref sig .tc .vmem S1x512x4096 .f32) (harg3 : arg3.IsWhole) (arg4 : Memref sig .tc .vmem S1x16x4096 .f32) (harg4 : arg4.IsWhole)
    (arg5 : Memref sig .tc .vmem S2048x512 .f32) (harg5 : arg5.IsWhole) (arg6 : Memref sig .tc .vmem S2048x16 .f32) (harg6 : arg6.IsWhole)
    (hc : ¬k0_cond1 i = 1#1) (x0 : Vec F S2048x4096 .bf16) (x1 : Vec F S1x512x4096 .f32) (x2 : Vec F S1x16x4096 .f32) (x4 : Vec F S2048x16 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2
            ∗ owns (c : Thread nD τ) arg5 fullShare (proj x0 x1) ∗ owns (c : Thread nD τ) arg6 fullShare x4) -∗ K ⟨⟩))
      ⊢ wp frame (wpE (defs₀ (F := F)) Variants.none c none) E (cc0_mix_in_proj i arg2 harg2 arg3 harg3 arg4 harg4 arg5 harg5 arg6 harg6) K := by
  unfold cc0_mix_in_proj
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (stored_proj _ _ _).trans ?_
    refine Eq.trans ?_ (congrArg₂ proj (ld_tile _) (ld_rows _))
    rfl
  iexists f4; isplitr; · ipureintro; rfl
  iexact H4

/-! ## The pipeline's proof data -/

/-- After the body at point `t`: each input's buffer at its block, the first output's at the product there, and the
    second output's at the gates' product of the blocks there, which is the same all along a row tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => proj (iblk m c 0 t) (iblk m c 1 t)
    | ⟨4, _⟩ => gates (iblk m c 0 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = proj (iblk m c 0 t) (iblk m c 1 t) := by dsimp only [dats]
theorem after_4 (c : Dev nD) (t : Fin cfg0.N) : (dats m 0 c).after 4 t = gates (iblk m c 0 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The second output's buffer along a row tile -/

/-- The body multiplies by the gate rows at the first point of each row tile only. -/
theorem cond_iff : ∀ t : Fin cfg0.N, k0_cond1 (grid0.coords t) = 1#1 ↔ t.val % 28 = 0 :=
  (by decide +kernel : ∀ t : Fin grid0.N, k0_cond1 (grid0.coords t) = 1#1 ↔ t.val % 28 = 0)

/-- The second output is left alone at the other points. -/
theorem idle_4 (t : Fin cfg0.N) : cfg0.idle 4 (grid0.coords t) = !decide (t.val % 28 = 0) :=
  (by decide +kernel : ∀ t : Fin grid0.N, idle0 4 (grid0.coords t) = !decide (t.val % 28 = 0)) t

/-- Its buffer holds nothing of use before the first point of a row tile, and the gates' product before every other. -/
theorem fresh_4 (t : Fin cfg0.N) : cfg0.fresh 4 t.val = decide (t.val % 28 = 0) := by
  refine cfg0.fresh_tab 4 (fun n => decide (n % 28 = 0)) rfl (fun t => ?_) t.val (Nat.le_of_lt t.isLt)
  have hf := flush0_4 t
  rw [show cfg0.idle 4 (cfg0.grid.coords t) = !decide (t.val % 28 = 0) from idle_4 t, Bool.not_and_self, Bool.or_false]
  by_cases h : t.val % 28 = 27
  · rw [hf.mpr h]
    exact decide_eq_true (by omega)
  · rw [Bool.eq_false_iff.mpr fun e => h (hf.mp e)]
    exact decide_eq_false (by omega)

/-- A window not fetched at a point has there the block of the point before. -/
theorem iblk_unfetched (c : Dev nD) (t p : Fin cfg0.N) (hp : p.val = t.val - 1) (h0 : (cfg0.win 0).fetch t = false) :
    iblk m c 0 t = iblk m c 0 p := by
  obtain ⟨-, hix⟩ := (cfg0.win 0).index_eq_of_fetch rfl t h0
  obtain rfl : p = ⟨t.val - 1, Nat.lt_of_le_of_lt (Nat.sub_le _ _) t.isLt⟩ := Fin.ext hp
  exact (dats m 0 c).fetched_congr 0 hix rfl (iblk m c 0 t)

/-- The same of the gate rows' window. -/
theorem iblk_gates (c : Dev nD) (t p : Fin cfg0.N) : iblk m c 2 t = iblk m c 2 p :=
  (dats m 0 c).fetched_congr 2 (t := t) (t' := p) rfl rfl (iblk m c 2 t)

/-- The gates' product does not change within a row tile. -/
theorem gates_carried (c : Dev nD) (t : Fin cfg0.N) (h : t.val % 28 ≠ 0) :
    (dats m 0 c).after 4 t = (dats m 0 c).after 4 ⟨t.val - 1, Nat.lt_of_le_of_lt (Nat.sub_le _ _) t.isLt⟩ := by
  rw [after_4, after_4, iblk_unfetched m c t ⟨t.val - 1, Nat.lt_of_le_of_lt (Nat.sub_le _ _) t.isLt⟩ rfl
      (Bool.eq_false_iff.mpr fun e => h ((fetch0_0 t).mp e)),
    iblk_gates m c t ⟨t.val - 1, Nat.lt_of_le_of_lt (Nat.sub_le _ _) t.isLt⟩]

/-- At a later point of a row tile the body finds the gates' product in the second output's buffer. -/
theorem before_4 (c : Dev nD) (t : Fin cfg0.N) (h : t.val % 28 ≠ 0) (d) : (dats m 0 c).before 4 t d = (dats m 0 c).after 4 t := by
  rw [(dats m 0 c).before_out_traj 4 rfl (fun _ _ => rfl)
      (fun t _ hi _ => gates_carried m c t fun e => by rw [show cfg0.idle 4 (cfg0.grid.coords t) = _ from idle_4 t, decide_eq_true e] at hi; exact Bool.false_ne_true hi)
      t.val t rfl d,
    fresh_4, decide_eq_false h, if_neg Bool.false_ne_true, gates_carried m c t h]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- At either kind of point the second output's buffer is left at the gates' product, which is what is asked of it. -/
theorem leaves_4 (c : Dev nD) (t : Fin cfg0.N) :
    owns (c : Thread nD τ) (st0_4 t) fullShare ((dats m 0 c).after 4 t) ⊢ (dats m 0 c).leavesExact 4 t := by
  by_cases h : t.val % 28 = 0
  · unfold Dat.leavesExact
    rw [show cfg0.idle 4 (cfg0.grid.coords t) = false from (idle_4 t).trans (by rw [decide_eq_true h]; rfl)]
  · have hi : cfg0.idle 4 (cfg0.grid.coords t) = true := (idle_4 t).trans (by rw [decide_eq_false h]; rfl)
    cases hf : (cfg0.win 4).flush t
    · rw [(dats m 0 c).leavesExact_idle 4 t hi hf]
      iintro H
      iexists ((dats m 0 c).after 4 t)
      rw [before_4 m c t h]
      iexact H
    · unfold Dat.leavesExact
      rw [hi, hf]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases h : t.val % 28 = 0
  · iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ ((cond_iff t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    rw [after_4]
    iexact H4
  · simp only [before_4 m c t h]
    iintro ⟨HΦ, Ho, ⟨%d0, H0⟩, ⟨%d1, H1⟩, ⟨%d2, H2⟩, ⟨%d3, H3⟩, ⟨%d4, H4⟩⟩
    iapply (body_later c (grid0.coords t) _ _ _ _ _ _ _ _ _ _ (fun e => h ((cond_iff t).mp e)) (iblk m c 0 t) (iblk m c 1 t) (iblk m c 2 t)
      ((dats m 0 c).after 4 t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t)
    iexact H4

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
set_option maxHeartbeats 800000 in
/-- The launch: every array ends at what the proof data says, every other buffer as the region found it, and every
    semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the run ends, the arguments are unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- The run, its two results named: what the write-backs of the third and fourth windows leave. -/
theorem run_blocks : θ_run defs (onTc (τ := τ) (main (F := F))) ⟨m, fun _ => 0, ρ⟩ (fun r => ∀ c : Dev nD,
      r.2.mem ((c.tc : Thread nD τ).loc main_v1_0) = (dats m 0 c).arrAt 3 cfg0.N
      ∧ r.2.mem ((c.tc : Thread nD τ).loc main_v1_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.1 c).1 3, (h.1 c).1 4, h.2 c⟩)
    (θ_run_and ((θ_run defs _ _).mono (fun _ h => h.1) (run_quiescent m ρ))
      (frame_of m ρ (dats m) (A_eq m) ((θ_run defs _ _).mono (fun _ h => h.1) (run_quiescent m ρ))))

end Cert.Kernel4Ideal.InProj

end
-- ==== Proof.InProj.lean ====
/- The mixers' input projection: the two arrays the kernel leaves are the reference's. -/
module

public import proofs.«01_k».proof.Proof.InProjRun
public import proofs.«01_k».proof.Proof.Gen.Reference4Ideal.Run
public import Idealize.ShloMosaic.Lib.Pipeline.ValueKit

@[expose] public section

set_option maxRecDepth 16384

noncomputable section

namespace Cert.InProj

open Cert.Kernel4Ideal Cert.Kernel4Ideal.Gen Cert.Kernel4Ideal.InProj
open Idealize.ShloMosaic Idealize.ShloMosaic.TcCoe Idealize.SL.Sem

variable (m : (ℓ : Loc nD τ sig) → Buf (Elt Ideal) ℓ)

/-- The activations times the second layer's weight, all 14352 columns. -/
abbrev product (u : FVec Ideal Cert.Reference4Ideal.S16384x4096 .bf16) (w : FVec Ideal Cert.Reference4Ideal.S2x4096x14352 .f32) :
    FVec Ideal Cert.Reference4Ideal.S16384x14352 .f32 :=
  Host.dotGeneral Cert.Reference4Ideal.dot_S16384x4096_S4096x14352_S16384x14352_1_0_0_1_n_n none
    (extf .f32 u Cert.Reference4Ideal.Gen.bitsLt_bf16_f32)
    (shapeCast _ (extractStridedSlice Cert.Reference4Ideal.S1x4096x14352 ![1, 0, 0] w
      Cert.Reference4Ideal.Gen.slices_S2x4096x14352_S1x4096x14352_1_0_0)
      Cert.Reference4Ideal.Gen.shapeCasts_S1x4096x14352_S4096x14352)

/-- The reference's first result: the product without the 16 gate columns. -/
abbrev targetProj (u : FVec Ideal Cert.Reference4Ideal.S16384x4096 .bf16) (w : FVec Ideal Cert.Reference4Ideal.S2x4096x14352 .f32) :
    FVec Ideal Cert.Reference4Ideal.S16384x14336 .f32 :=
  concatenate Cert.Reference4Ideal.S16384x14336 1
    [⟨Cert.Reference4Ideal.S16384x6144, extractStridedSlice Cert.Reference4Ideal.S16384x6144 ![0, 0] (product u w)
        Cert.Reference4Ideal.Gen.slices_S16384x14352_S16384x6144_0_0⟩,
      ⟨Cert.Reference4Ideal.S16384x8192, extractStridedSlice Cert.Reference4Ideal.S16384x8192 ![0, 6160] (product u w)
        Cert.Reference4Ideal.Gen.slices_S16384x14352_S16384x8192_0_6160⟩]
    Cert.Reference4Ideal.Gen.concatenates_S16384x6144_S16384x8192_S16384x14336_d1

/-- The reference's second result: the product's 16 gate columns. -/
abbrev targetGates (u : FVec Ideal Cert.Reference4Ideal.S16384x4096 .bf16) (w : FVec Ideal Cert.Reference4Ideal.S2x4096x14352 .f32) :
    FVec Ideal Cert.Reference4Ideal.S16384x16 .f32 :=
  extractStridedSlice Cert.Reference4Ideal.S16384x16 ![0, 6144] (product u w)
    Cert.Reference4Ideal.Gen.slices_S16384x14352_S16384x16_0_6144

/-- Where the windows lie: point `t` takes row tile `t / 28`; its 512 rows of the transposed weight begin at
    `512 (t % 28)`, past the gate rows from the twelfth window on; the gate rows begin at 6144. -/
theorem places : ∀ t : Fin cfg0.N, win0_0.index t = ![t.val / 28, 0]
    ∧ win0_1.index t = ![1, 512 * (t.val % 28) + (if t.val % 28 < 12 then 0 else 16), 0]
    ∧ win0_2.index t = ![1, 6144, 0] ∧ win0_3.index t = ![t.val / 28, t.val % 28] ∧ win0_4.index t = ![t.val / 28, 0] :=
  (by decide +kernel : ∀ t : Fin grid0.N, _)

/-- An element of the window of 512 rows in the transposed weight: the window's values are element offsets. -/
theorem emb_rows (t : Fin cfg0.N) (j : S1x512x4096.Idx) (a : Fin 3) :
    (((View.whole main_v0).slice (win0_1.rect t)).emb j a : ℕ) = win0_1.index t a + j a :=
  win0_1.rect_emb_val_off t j a

/-- An element of the window of the gate rows in the transposed weight. -/
theorem emb_gates (t : Fin cfg0.N) (j : S1x16x4096.Idx) (a : Fin 3) :
    (((View.whole main_v0).slice (win0_2.rect t)).emb j a : ℕ) = win0_2.index t a + j a :=
  win0_2.rect_emb_val_off t j a

/-- The result's column an element of a tile of the first output goes to. -/
theorem column (t : Fin cfg0.N) (y : S2048x512.Idx) :
    (((View.whole main_v1_0).slice (win0_3.rect t)).emb y 1 : ℕ) = t.val % 28 * 512 + (y 1).val :=
  (win0_3.rect_emb_val_off t y 1).trans (by rw [(places t).2.2.2.1]; rfl)

/-- One point's tile of the gates' product is the target's tile there. -/
theorem tileGates (c : Dev nD) (t : Fin cfg0.N) (y) : gates (iblk m c 0 t) (iblk m c 2 t) y
    = targetGates (m ((c : Thread nD τ).loc main_arg0)) (m ((c : Thread nD τ).loc main_arg1)) (((cfg0.win 4).blk t).view.emb y) := by
  pointwise [gates, targetGates]
  blk_point [iblk, V, places t]
  · exact (emb_gates t _ 0).trans (by rw [(places t).2.2.1]; rfl)
  · exact (emb_gates t _ 2).trans (by rw [(places t).2.2.1]; exact Nat.zero_add _)
  · exact (emb_gates t _ 1).trans (by rw [(places t).2.2.1]; rfl)

/-- One point's tile of the product is the target's tile there. -/
theorem tileProj (c : Dev nD) (t : Fin cfg0.N) (y) : proj (iblk m c 0 t) (iblk m c 1 t) y
    = targetProj (m ((c : Thread nD τ).loc main_arg0)) (m ((c : Thread nD τ).loc main_arg1)) (((cfg0.win 3).blk t).view.emb y) := by
  pointwise [proj, targetProj]
  blk_point [iblk, V, places t]
  all_goals rename_i hcol _ _
  all_goals rw [show (((View.whole main_v1_0).slice ((win0 3).rect t)).emb y 1 : ℕ) = _ from column t y] at hcol
  · exact ((emb_rows t _ 0).trans (by rw [(places t).2.1]; rfl)).symm
  · exact ((emb_rows t _ 2).trans (by rw [(places t).2.1]; exact Nat.zero_add _)).symm
  · refine Eq.trans ?_ (emb_rows t _ 1).symm
    rw [(places t).2.1]
    show t.val % 28 * 512 + (y 1).val = 512 * (t.val % 28) + (if t.val % 28 < 12 then 0 else 16) + (y 1).val
    rw [if_pos (by omega)]
    omega
  · exact ((emb_rows t _ 0).trans (by rw [(places t).2.1]; rfl)).symm
  · exact ((emb_rows t _ 2).trans (by rw [(places t).2.1]; exact Nat.zero_add _)).symm
  · refine Eq.trans ?_ (emb_rows t _ 1).symm
    rw [(places t).2.1]
    show 6160 + (t.val % 28 * 512 + (y 1).val - 6144) = 512 * (t.val % 28) + (if t.val % 28 < 12 then 0 else 16) + (y 1).val
    rw [if_neg (by omega)]
    omega

theorem resultGates (c : Dev nD) : (dats m 0 c).arrAt 4 cfg0.N
    = targetGates (m ((c : Thread nD τ).loc main_arg0)) (m ((c : Thread nD τ).loc main_arg1)) := by
  refine (dats m 0 c).arrAt_eq_of_covers 4 _ (by decide +kernel) fun t _ y => ?_
  blk_simp
  rw [after_4]
  exact tileGates m c t y

theorem resultProj (c : Dev nD) : (dats m 0 c).arrAt 3 cfg0.N
    = targetProj (m ((c : Thread nD τ).loc main_arg0)) (m ((c : Thread nD τ).loc main_arg1)) := by
  refine (dats m 0 c).arrAt_eq_of_covers 3 _ (by decide +kernel) fun t _ y => ?_
  blk_simp
  rw [after_3]
  exact tileProj m c t y

end Cert.InProj

end
-- ==== Proof.MergeGate.lean ====
/- The merge gates: the array the kernel leaves is the reference's. -/
module

public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.MergeGate

open Cert.Kernel5Ideal Cert.Kernel5Ideal.Gen
open Idealize.ShloMosaic Idealize.ShloMosaic.TcCoe Idealize.SL.Sem

/-- The kernel writes a number's negative as zero less the number. -/
theorem neg_eq (x : EReal) : 0 - x = -x := by rw [sub_eq_add_neg, zero_add]

variable (m : (ℓ : Loc nD τ sig) → Buf (Elt Ideal) ℓ)

/-- The reference's result as a function of its three arguments: the sigmoid of the product plus the bias. -/
abbrev target (u : FVec Ideal Cert.Reference5Ideal.S16384x4096 .bf16) (w : FVec Ideal Cert.Reference5Ideal.S2x4096x8192 .f32) (b : FVec Ideal Cert.Reference5Ideal.S8192 .f32) :
    FVec Ideal Cert.Reference5Ideal.S16384x8192 .bf16 :=
  truncf .bf16 (Host.divf (broadcastInDim Cert.Reference5Ideal.S16384x8192 ![]
    Cert.Reference5Ideal.Gen.bcast_S_S16384x8192 (constant Cert.Reference5Ideal.S_ .f32 0x3F800000#32)) (addf
    (broadcastInDim Cert.Reference5Ideal.S16384x8192 ![] Cert.Reference5Ideal.Gen.bcast_S_S16384x8192 (constant
    Cert.Reference5Ideal.S_ .f32 0x3F800000#32)) (Host.exp (Host.negf (addf (Host.dotGeneral
    Cert.Reference5Ideal.dot_S16384x4096_S4096x8192_S16384x8192_1_0_0_1_n_n none (extf .f32 u
    Cert.Reference5Ideal.Gen.bitsLt_bf16_f32) (shapeCast _ (extractStridedSlice Cert.Reference5Ideal.S1x4096x8192 ![1,
    0, 0] w Cert.Reference5Ideal.Gen.slices_S2x4096x8192_S1x4096x8192_1_0_0)
    Cert.Reference5Ideal.Gen.shapeCasts_S1x4096x8192_S4096x8192)) (broadcastInDim Cert.Reference5Ideal.S16384x8192
    ![0, 1] Cert.Reference5Ideal.Gen.bcast_S1x8192_S16384x8192_0_1 (broadcastInDim Cert.Reference5Ideal.S1x8192 ![1]
    Cert.Reference5Ideal.Gen.bcast_S8192_S1x8192_1 b))))))) Cert.Reference5Ideal.Gen.bitsLt_bf16_f32

/-- Where each window lies at each point: point `t` takes row tile `t / 16` and column tile `t % 16`. -/
theorem places : ∀ t : Fin cfg0.N, win0_0.index t = ![t.val / 16, 0] ∧ win0_1.index t = ![1, 0, t.val % 16]
    ∧ win0_2.index t = ![0, t.val % 16] ∧ win0_3.index t = ![t.val / 16, t.val % 16] :=
  (by decide +kernel : ∀ t : Fin grid0.N, _)

set_option maxHeartbeats 1600000 in
/-- What a point leaves in the result's buffer, store by store of 128 rows, is the target's tile there. -/
theorem tile (c : Dev nD) (t : Fin cfg0.N) (y) : out0_3 (iblk m c 0 t) (iblk m c 1 t) (iblk m c 2 t) y
    = target (m ((c : Thread nD τ).loc main_arg0)) (m ((c : Thread nD τ).loc main_arg1)) (m ((c : Thread nD τ).loc main_arg2))
      (((cfg0.win 3).blk t).view.emb y) := by
  canon_tiles x h
  all_goals
    open_payloads
    pointwise [target]
    simp only [neg_eq]
    blk_point [iblk, V, places t]

/-- The result array after the run is the target. -/
theorem result (c : Dev nD) : (dats m 0 c).arrAt 3 cfg0.N
    = target (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact tile m c t y

end Cert.MergeGate

end
-- ==== Proof.MixOut.lean ====
/- The mixers' output projection: the array the kernel leaves is the reference's. -/
module

public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.MixOut

open Cert.Kernel6Ideal Cert.Kernel6Ideal.Gen
open Idealize.ShloMosaic Idealize.ShloMosaic.TcCoe Idealize.SL.Sem

variable (m : (ℓ : Loc nD τ sig) → Buf (Elt Ideal) ℓ)

/-- The reference's result as a function of its two arguments: the activations times the second layer's weight. -/
abbrev target (z : FVec Ideal Cert.Reference6Ideal.S16384x4096 .bf16) (w : FVec Ideal Cert.Reference6Ideal.S2x4096x4096 .f32) :
    FVec Ideal Cert.Reference6Ideal.S16384x4096 .bf16 :=
  truncf .bf16 (Host.dotGeneral Cert.Reference6Ideal.dot_S16384x4096_S4096x4096_S16384x4096_1_0_0_1_n_n none (extf
    .f32 z Cert.Reference6Ideal.Gen.bitsLt_bf16_f32) (shapeCast _ (extractStridedSlice
    Cert.Reference6Ideal.S1x4096x4096 ![1, 0, 0] w Cert.Reference6Ideal.Gen.slices_S2x4096x4096_S1x4096x4096_1_0_0)
    Cert.Reference6Ideal.Gen.shapeCasts_S1x4096x4096_S4096x4096)) Cert.Reference6Ideal.Gen.bitsLt_bf16_f32

/-- Where each window lies at each point: point `t` takes row tile `t / 8` and column tile `t % 8`. -/
theorem places : ∀ t : Fin cfg0.N, win0_0.index t = ![t.val / 8, 0] ∧ win0_1.index t = ![1, 0, t.val % 8]
    ∧ win0_2.index t = ![t.val / 8, t.val % 8] :=
  (by decide +kernel : ∀ t : Fin grid0.N, _)

/-- One point's tile is the target's tile there. -/
theorem tile (c : Dev nD) (t : Fin cfg0.N) (y) : k0_pay1 (iblk m c 1 t) (iblk m c 0 t) y
    = target (m ((c : Thread nD τ).loc main_arg0)) (m ((c : Thread nD τ).loc main_arg1)) (((cfg0.win 2).blk t).view.emb y) := by
  pointwise [k0_pay1, target]
  blk_point [iblk, V, places t]

/-- The result array after the run is the target. -/
theorem result (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile m c t y

end Cert.MixOut

end
-- ==== Proof.Branch.lean ====
/- The mLSTM branch's projection: the array the kernel leaves is the reference's. -/
module

public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.Branch

open Cert.Kernel7Ideal Cert.Kernel7Ideal.Gen
open Idealize.ShloMosaic Idealize.ShloMosaic.TcCoe Idealize.SL.Sem

variable (m : (ℓ : Loc nD τ sig) → Buf (Elt Ideal) ℓ)

/-- The reference's result as a function of its two arguments: the weight's column tiles are put side by side, and the
    activations are multiplied by the matrix they make. -/
abbrev target (x : FVec Ideal Cert.Reference7Ideal.S16384x2048 .bf16) (w : FVec Ideal Cert.Reference7Ideal.S4x2048x1024 .bf16) :
    FVec Ideal Cert.Reference7Ideal.S16384x4096 .f32 :=
  Host.dotGeneral Cert.Reference7Ideal.dot_S16384x2048_S2048x4096_S16384x4096_1_0_0_1_n_n none (extf .f32 x
    Cert.Reference7Ideal.Gen.bitsLt_bf16_f32) (shapeCast _ (transpose Cert.Reference7Ideal.S2048x4x1024 [1, 0, 2]
    (extf .f32 w Cert.Reference7Ideal.Gen.bitsLt_bf16_f32)
    Cert.Reference7Ideal.Gen.transposes_S4x2048x1024_S2048x4x1024_1_0_2)
    Cert.Reference7Ideal.Gen.shapeCasts_S2048x4x1024_S2048x4096)

/-- Where each window lies at each point: point `t` takes row tile `t / 4` and column tile `t % 4`. -/
theorem places : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

/-- One point's tile is the target's tile there. -/
theorem tile (c : Dev nD) (t : Fin cfg0.N) (y) : k0_pay1 (iblk m c 1 t) (iblk m c 0 t) y
    = target (m ((c : Thread nD τ).loc main_arg0)) (m ((c : Thread nD τ).loc main_arg1)) (((cfg0.win 2).blk t).view.emb y) := by
  pointwise [k0_pay1, target]
  blk_point [iblk, V, places t]

/-- The result array after the run is the target. -/
theorem result (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile m c t y

end Cert.Branch

end
-- ==== Proof.BranchMerge.lean ====
/- The HGRN branch's projection merged with the mLSTM branch under the gates: the array the kernel leaves is the reference's. -/
module

public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.BranchMerge

open Cert.Kernel8Ideal Cert.Kernel8Ideal.Gen
open Idealize.ShloMosaic Idealize.ShloMosaic.TcCoe Idealize.SL.Sem

variable (m : (ℓ : Loc nD τ sig) → Buf (Elt Ideal) ℓ)

/-- The reference's result as a function of its four arguments: the branch's product weighted by the gates' second half,
    and the other branch weighted by their first half. -/
abbrev target (x : FVec Ideal Cert.Reference8Ideal.S16384x2048 .bf16) (w : FVec Ideal Cert.Reference8Ideal.S4x2048x1024 .bf16) (g : FVec Ideal Cert.Reference8Ideal.S16384x8192 .bf16) (v : FVec Ideal Cert.Reference8Ideal.S16384x4096 .f32) :
    FVec Ideal Cert.Reference8Ideal.S16384x4096 .bf16 :=
  truncf .bf16 (addf (mulf (extf .f32 (extractStridedSlice Cert.Reference8Ideal.S16384x4096 ![0, 0] g
    Cert.Reference8Ideal.Gen.slices_S16384x8192_S16384x4096_0_0) Cert.Reference8Ideal.Gen.bitsLt_bf16_f32) v) (mulf
    (extf .f32 (extractStridedSlice Cert.Reference8Ideal.S16384x4096 ![0, 4096] g
    Cert.Reference8Ideal.Gen.slices_S16384x8192_S16384x4096_0_4096) Cert.Reference8Ideal.Gen.bitsLt_bf16_f32)
    (Host.dotGeneral Cert.Reference8Ideal.dot_S16384x2048_S2048x4096_S16384x4096_1_0_0_1_n_n none (extf .f32 x
    Cert.Reference8Ideal.Gen.bitsLt_bf16_f32) (shapeCast _ (transpose Cert.Reference8Ideal.S2048x4x1024 [1, 0, 2]
    (extf .f32 w Cert.Reference8Ideal.Gen.bitsLt_bf16_f32)
    Cert.Reference8Ideal.Gen.transposes_S4x2048x1024_S2048x4x1024_1_0_2)
    Cert.Reference8Ideal.Gen.shapeCasts_S2048x4x1024_S2048x4096)))) Cert.Reference8Ideal.Gen.bitsLt_bf16_f32

/-- Where each window lies at each point: point `t` takes row tile `t / 4` and column tile `t % 4`; the second gate's
    columns begin four tiles further. -/
theorem places : ∀ t : Fin cfg0.N, win0_0.index t = ![t.val / 4, 0] ∧ win0_1.index t = ![t.val % 4, 0, 0]
    ∧ win0_2.index t = ![t.val / 4, t.val % 4] ∧ win0_3.index t = ![t.val / 4, t.val % 4 + 4]
    ∧ win0_4.index t = ![t.val / 4, t.val % 4] ∧ win0_5.index t = ![t.val / 4, t.val % 4] :=
  (by decide +kernel : ∀ t : Fin grid0.N, _)

set_option maxHeartbeats 1600000 in
/-- What a point leaves in the result's buffer, store by store of 128 rows, is the target's tile there. -/
theorem tile (c : Dev nD) (t : Fin cfg0.N) (y) : out0_5 (iblk m c 0 t) (iblk m c 1 t) (iblk m c 2 t) (iblk m c 3 t) (iblk m c 4 t) y
    = target (m ((c : Thread nD τ).loc main_arg0)) (m ((c : Thread nD τ).loc main_arg1)) (m ((c : Thread nD τ).loc main_arg2)) (m ((c : Thread nD τ).loc main_arg3))
      (((cfg0.win 5).blk t).view.emb y) := by
  canon_tiles x h
  all_goals
    open_payloads
    pointwise [target]
    blk_point [iblk, V, places t]

/-- The result array after the run is the target. -/
theorem result (c : Dev nD) : (dats m 0 c).arrAt 5 cfg0.N
    = target (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  exact tile m c t y

end Cert.BranchMerge

end
-- ==== Proof.Dense.lean ====
/- The value claims of the dense calls: each kernel's run and its reference's leave the same results, and the
   references' frames, off the same runs. -/
module

public import proofs.«01_k».proof.Defs
public import proofs.«01_k».proof.Proof.FfnUp
public import proofs.«01_k».proof.Proof.FfnDown
public import proofs.«01_k».proof.Proof.InProj
public import proofs.«01_k».proof.Proof.MergeGate
public import proofs.«01_k».proof.Proof.MixOut
public import proofs.«01_k».proof.Proof.Branch
public import proofs.«01_k».proof.Proof.BranchMerge
public import Idealize.ShloMosaic.Lib.Quiescent

@[expose] public section

set_option maxRecDepth 16384

noncomputable section

namespace Cert.Dense

open Idealize.ShloMosaic Idealize.SL.Sem

/-- The FFNs' gate and up projections, gated: both runs leave the reference's function of the arguments. -/
theorem up : Cert.algebraic_Kernel2Ideal_Reference2Ideal := fun m g m' g' _ hargs =>
  ⟨fun c => Cert.FfnUp.targetAct (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), fun c => Cert.FfnUp.targetCast (m ((c.tc : Thread Cert.Kernel2Ideal.nD Cert.Kernel2Ideal.τ).loc Cert.Kernel2Ideal.main_arg2)),
    (θ_run Cert.Kernel2Ideal.defs _ _).mono (fun r h c => ⟨(h c).1.trans (Cert.FfnUp.resultAct m c), (h c).2.1.trans (Cert.FfnUp.resultCast m c), (h c).2.2⟩)
      (Cert.Kernel2Ideal.Value.run_blocks (F := Ideal) m g),
    by
    refine (θ_run Cert.Reference2Ideal.defs _ _).mono (fun r h c => ⟨(h c).1.trans ?_, (h c).2.1.trans ?_, (h c).2.2⟩)
      (Cert.Reference2Ideal.Value.run (F := Ideal) m' g')
    all_goals obtain ⟨h0, h1, h2⟩ := hargs c
    · rw [h0, h1]
    · rw [h2]⟩

theorem frame_up : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- The FFNs' down projections: both runs leave the reference's function of the arguments. -/
theorem down : Cert.algebraic_Kernel3Ideal_Reference3Ideal := fun m g m' g' _ hargs =>
  ⟨fun c => Cert.FfnDown.target (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun r h c => ⟨(h c).1.trans (Cert.FfnDown.result m c), (h c).2⟩)
      (Cert.Kernel3Ideal.Value.run_blocks (F := Ideal) m g),
    by
    refine (θ_run Cert.Reference3Ideal.defs _ _).mono (fun r h c => ⟨(h c).1.trans ?_, (h c).2⟩)
      (Cert.Reference3Ideal.Value.run (F := Ideal) m' g')
    all_goals obtain ⟨h0, h1⟩ := hargs c
    rw [h0, h1]⟩

theorem frame_down : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The mixers' input projection: both runs leave the reference's functions of the arguments. -/
theorem inProj : Cert.algebraic_Kernel4Ideal_Reference4Ideal := fun m g m' g' _ hargs =>
  ⟨fun c => Cert.InProj.targetProj (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    fun c => Cert.InProj.targetGates (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun r h c => ⟨(h c).1.trans (Cert.InProj.resultProj m c), (h c).2.1.trans (Cert.InProj.resultGates m c), (h c).2.2⟩)
      (Cert.Kernel4Ideal.InProj.run_blocks (F := Ideal) m g),
    by
    refine (θ_run Cert.Reference4Ideal.defs _ _).mono (fun r h c => ⟨(h c).1.trans ?_, (h c).2.1.trans ?_, (h c).2.2⟩)
      (Cert.Reference4Ideal.Value.run (F := Ideal) m' g')
    all_goals obtain ⟨h0, h1⟩ := hargs c
    all_goals rw [h0, h1]⟩

theorem frame_inProj : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The merge's gates: both runs leave the reference's function of the arguments. -/
theorem mergeGate : Cert.algebraic_Kernel5Ideal_Reference5Ideal := fun m g m' g' _ hargs =>
  ⟨fun c => Cert.MergeGate.target (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    (θ_run Cert.Kernel5Ideal.defs _ _).mono (fun r h c => ⟨(h c).1.trans (Cert.MergeGate.result m c), (h c).2⟩)
      (Cert.Kernel5Ideal.Value.run_blocks (F := Ideal) m g),
    by
    refine (θ_run Cert.Reference5Ideal.defs _ _).mono (fun r h c => ⟨(h c).1.trans ?_, (h c).2⟩)
      (Cert.Reference5Ideal.Value.run (F := Ideal) m' g')
    all_goals obtain ⟨h0, h1, h2⟩ := hargs c
    rw [h0, h1, h2]⟩

theorem frame_mergeGate : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The mixers' output projection: both runs leave the reference's function of the arguments. -/
theorem mixOut : Cert.algebraic_Kernel6Ideal_Reference6Ideal := fun m g m' g' _ hargs =>
  ⟨fun c => Cert.MixOut.target (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun r h c => ⟨(h c).1.trans (Cert.MixOut.result m c), (h c).2⟩)
      (Cert.Kernel6Ideal.Value.run_blocks (F := Ideal) m g),
    by
    refine (θ_run Cert.Reference6Ideal.defs _ _).mono (fun r h c => ⟨(h c).1.trans ?_, (h c).2⟩)
      (Cert.Reference6Ideal.Value.run (F := Ideal) m' g')
    all_goals obtain ⟨h0, h1⟩ := hargs c
    rw [h0, h1]⟩

theorem frame_mixOut : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The first branch's projection: both runs leave the reference's function of the arguments. -/
theorem branch : Cert.algebraic_Kernel7Ideal_Reference7Ideal := fun m g m' g' _ hargs =>
  ⟨fun c => Cert.Branch.target (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run Cert.Kernel7Ideal.defs _ _).mono (fun r h c => ⟨(h c).1.trans (Cert.Branch.result m c), (h c).2⟩)
      (Cert.Kernel7Ideal.Value.run_blocks (F := Ideal) m g),
    by
    refine (θ_run Cert.Reference7Ideal.defs _ _).mono (fun r h c => ⟨(h c).1.trans ?_, (h c).2⟩)
      (Cert.Reference7Ideal.Value.run (F := Ideal) m' g')
    all_goals obtain ⟨h0, h1⟩ := hargs c
    rw [h0, h1]⟩

theorem frame_branch : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The second branch's projection, merged: both runs leave the reference's function of the arguments. -/
theorem branchMerge : Cert.algebraic_Kernel8Ideal_Reference8Ideal := fun m g m' g' _ hargs =>
  ⟨fun c => Cert.BranchMerge.target (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)),
    (θ_run Cert.Kernel8Ideal.defs _ _).mono (fun r h c => ⟨(h c).1.trans (Cert.BranchMerge.result m c), (h c).2⟩)
      (Cert.Kernel8Ideal.Value.run_blocks (F := Ideal) m g),
    by
    refine (θ_run Cert.Reference8Ideal.defs _ _).mono (fun r h c => ⟨(h c).1.trans ?_, (h c).2⟩)
      (Cert.Reference8Ideal.Value.run (F := Ideal) m' g')
    all_goals obtain ⟨h0, h1, h2, h3⟩ := hargs c
    rw [h0, h1, h2, h3]⟩

theorem frame_branchMerge : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

end Cert.Dense

end
-- ==== Proof.Query.lean ====
/- The cross attention's query projection: the array the kernel leaves is the reference's. -/
module

public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

namespace Cert.Query

open Cert.Kernel9Ideal Cert.Kernel9Ideal.Gen
open Idealize.ShloMosaic Idealize.ShloMosaic.TcCoe Idealize.SL.Sem

variable (m : (ℓ : Loc nD τ sig) → Buf (Elt Ideal) ℓ)

/-- The reference's result as a function of its two arguments: the activations times the weight's only column tile. -/
abbrev target (x : FVec Ideal Cert.Reference9Ideal.S16384x4096 .bf16) (w : FVec Ideal Cert.Reference9Ideal.S1x4096x1024 .bf16) :
    FVec Ideal Cert.Reference9Ideal.S16384x1024 .bf16 :=
  truncf .bf16 (Host.dotGeneral Cert.Reference9Ideal.dot_S16384x4096_S4096x1024_S16384x1024_1_0_0_1_n_n none
    (extf .f32 x Cert.Reference9Ideal.Gen.bitsLt_bf16_f32) (extf .f32 (shapeCast _ w Cert.Reference9Ideal.Gen.shapeCasts_S1x4096x1024_S4096x1024)
    Cert.Reference9Ideal.Gen.bitsLt_bf16_f32)) Cert.Reference9Ideal.Gen.bitsLt_bf16_f32

/-- Where each window lies at each point: point `t` takes row tile `t` and the whole weight. -/
theorem places : ∀ t : Fin cfg0.N, win0_0.index t = ![t.val, 0] ∧ win0_1.index t = ![0, 0, 0]
    ∧ win0_2.index t = ![t.val, 0] :=
  (by decide +kernel : ∀ t : Fin grid0.N, _)

/-- One point's tile is the target's tile there. -/
theorem tile (c : Dev nD) (t : Fin cfg0.N) (y) : k0_pay1 (iblk m c 1 t) (iblk m c 0 t) y
    = target (m ((c : Thread nD τ).loc main_arg0)) (m ((c : Thread nD τ).loc main_arg1)) (((cfg0.win 2).blk t).view.emb y) := by
  pointwise [k0_pay1, target]
  blk_point [iblk, V, places t]

/-- The result array after the run is the target. -/
theorem result (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile m c t y

end Cert.Query

end
-- ==== Proof.KeyValue.lean ====
/- The cross attention's key and value projection: the array the kernel leaves is the reference's. -/
module

public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace Cert.KeyValue

open Cert.Kernel10Ideal Cert.Kernel10Ideal.Gen
open Idealize.ShloMosaic Idealize.ShloMosaic.TcCoe Idealize.SL.Sem

variable (m : (ℓ : Loc nD τ sig) → Buf (Elt Ideal) ℓ)

/-- The reference's result as a function of its two arguments: the normalised memory times the second layer's weight. -/
abbrev target (x : FVec Ideal Cert.Reference10Ideal.S512x4096 .bf16) (w : FVec Ideal Cert.Reference10Ideal.S2x4096x2048 .f32) : FVec Ideal Cert.Reference10Ideal.S512x2048 .bf16 :=
  truncf .bf16 (Host.dotGeneral Cert.Reference10Ideal.dot_S512x4096_S4096x2048_S512x2048_1_0_0_1_n_n none
    (extf .f32 x Cert.Reference10Ideal.Gen.bitsLt_bf16_f32) (shapeCast _ (extractStridedSlice Cert.Reference10Ideal.S1x4096x2048 ![1, 0, 0] w
    Cert.Reference10Ideal.Gen.slices_S2x4096x2048_S1x4096x2048_1_0_0) Cert.Reference10Ideal.Gen.shapeCasts_S1x4096x2048_S4096x2048)) Cert.Reference10Ideal.Gen.bitsLt_bf16_f32

/-- Where each window lies at each point: point `t` takes all rows and column tile `t`. -/
theorem places : ∀ t : Fin cfg0.N, win0_0.index t = ![0, 0] ∧ win0_1.index t = ![1, 0, t.val]
    ∧ win0_2.index t = ![0, t.val] :=
  (by decide +kernel : ∀ t : Fin grid0.N, _)

/-- One point's tile is the target's tile there. -/
theorem tile (c : Dev nD) (t : Fin cfg0.N) (y) : k0_pay1 (iblk m c 1 t) (iblk m c 0 t) y
    = target (m ((c : Thread nD τ).loc main_arg0)) (m ((c : Thread nD τ).loc main_arg1)) (((cfg0.win 2).blk t).view.emb y) := by
  pointwise [k0_pay1, target]
  blk_point [iblk, V, places t]

/-- The result array after the run is the target. -/
theorem result (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile m c t y

end Cert.KeyValue

end
-- ==== Proof.Last.lean ====
/- The last residual addition, whose result is the block's: the array the kernel leaves is the reference's. -/
module

public import proofs.«01_k».proof.Proof.Gen.Kernel12Ideal.Frame
public import proofs.«01_k».proof.Proof.Gen.Kernel12Ideal.Value
public import proofs.«01_k».proof.Proof.Gen.Reference12Ideal.Run
public import Idealize.ShloMosaic.Lib.Pipeline.ValueKit

@[expose] public section

set_option maxRecDepth 16384

noncomputable section

namespace Cert.Last

open Cert.Kernel12Ideal Cert.Kernel12Ideal.Gen
open Idealize.ShloMosaic Idealize.ShloMosaic.TcCoe Idealize.SL.Sem

variable (m : (ℓ : Loc nD τ sig) → Buf (Elt Ideal) ℓ)

/-- The norm of every row of an array, scaled by a weight per column. -/
abbrev norm (x : FVec Ideal Cert.Reference12Ideal.S16384x4096 .f32) (g : FVec Ideal Cert.Reference12Ideal.S4096 .f32) : FVec Ideal Cert.Reference12Ideal.S16384x4096 .f32 :=
  mulf (mulf x (broadcastInDim Cert.Reference12Ideal.S16384x4096 ![0, 1] Cert.Reference12Ideal.Gen.bcast_S16384x1_S16384x4096_0_1 (Host.rsqrt (addf (Host.divf
    (broadcastInDim Cert.Reference12Ideal.S16384x1 ![0] Cert.Reference12Ideal.Gen.bcast_S16384_S16384x1_0 (Host.reduceAdd (mulf x x) (constant Cert.Reference12Ideal.S_ .f32 0x00000000#32)
    Cert.Reference12Ideal.Gen.reducesTo_S16384x4096_S16384_d1 Cert.Reference12Ideal.Gen.h_S_)) (broadcastInDim Cert.Reference12Ideal.S16384x1 ![] Cert.Reference12Ideal.Gen.bcast_S_S16384x1
    (constant Cert.Reference12Ideal.S_ .f32 0x45800000#32))) (broadcastInDim Cert.Reference12Ideal.S16384x1 ![] Cert.Reference12Ideal.Gen.bcast_S_S16384x1
    (constant Cert.Reference12Ideal.S_ .f32 0x358637BD#32)))))) (broadcastInDim Cert.Reference12Ideal.S16384x4096 ![0, 1] Cert.Reference12Ideal.Gen.bcast_S1x4096_S16384x4096_0_1
    (broadcastInDim Cert.Reference12Ideal.S1x4096 ![1] Cert.Reference12Ideal.Gen.bcast_S4096_S1x4096_1 g))

/-- The residual stream after a half step: half the other array's norm is added to it. -/
abbrev stream (y : FVec Ideal Cert.Reference12Ideal.S16384x4096 .bf16) (h : FVec Ideal Cert.Reference12Ideal.S16384x4096 .f32) (g : FVec Ideal Cert.Reference12Ideal.S4096 .f32) :
    FVec Ideal Cert.Reference12Ideal.S16384x4096 .f32 :=
  addf h (mulf (broadcastInDim Cert.Reference12Ideal.S16384x4096 ![] Cert.Reference12Ideal.Gen.bcast_S_S16384x4096 (constant Cert.Reference12Ideal.S_ .f32 0x3F000000#32))
    (norm (extf .f32 y Cert.Reference12Ideal.Gen.bitsLt_bf16_f32) g))

/-- Where each window lies at each point: point `t` takes row tile `t` and the whole weight. -/
theorem places : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- One point's tile is the target's tile there. -/
theorem tile (c : Dev nD) (t : Fin cfg0.N) (y) : k0_pay1 (iblk m c 1 t) (iblk m c 0 t) (iblk m c 2 t) y
    = stream (m ((c : Thread nD τ).loc main_arg0)) (m ((c : Thread nD τ).loc main_arg1)) (m ((c : Thread nD τ).loc main_arg2)) (((cfg0.win 3).blk t).view.emb y) := by
  pointwise [k0_pay1, stream, norm]
  blk_point [iblk, V, places t]

/-- The result array after the run is the target. -/
theorem result (c : Dev nD) : (dats m 0 c).arrAt 3 cfg0.N
    = stream (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact tile m c t y

end Cert.Last

end
-- ==== Proof.Combine.lean ====
/- A residual addition and the next sub-layer's norm: the two arrays the kernel leaves are the reference's. -/
module

public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Pipeline.ValueKit

@[expose] public section

set_option maxRecDepth 16384

noncomputable section

namespace Cert.Combine

open Cert.Kernel13Ideal Cert.Kernel13Ideal.Gen
open Idealize.ShloMosaic Idealize.ShloMosaic.TcCoe Idealize.SL.Sem

variable (m : (ℓ : Loc nD τ sig) → Buf (Elt Ideal) ℓ)

/-- The norm of every row of an array, scaled by a weight per column. -/
abbrev norm (x : FVec Ideal Cert.Reference13Ideal.S16384x4096 .f32) (g : FVec Ideal Cert.Reference13Ideal.S4096 .f32) : FVec Ideal Cert.Reference13Ideal.S16384x4096 .f32 :=
  mulf (mulf x (broadcastInDim Cert.Reference13Ideal.S16384x4096 ![0, 1] Cert.Reference13Ideal.Gen.bcast_S16384x1_S16384x4096_0_1 (Host.rsqrt (addf (Host.divf
    (broadcastInDim Cert.Reference13Ideal.S16384x1 ![0] Cert.Reference13Ideal.Gen.bcast_S16384_S16384x1_0 (Host.reduceAdd (mulf x x) (constant Cert.Reference13Ideal.S_ .f32 0x00000000#32)
    Cert.Reference13Ideal.Gen.reducesTo_S16384x4096_S16384_d1 Cert.Reference13Ideal.Gen.h_S_)) (broadcastInDim Cert.Reference13Ideal.S16384x1 ![] Cert.Reference13Ideal.Gen.bcast_S_S16384x1
    (constant Cert.Reference13Ideal.S_ .f32 0x45800000#32))) (broadcastInDim Cert.Reference13Ideal.S16384x1 ![] Cert.Reference13Ideal.Gen.bcast_S_S16384x1
    (constant Cert.Reference13Ideal.S_ .f32 0x358637BD#32)))))) (broadcastInDim Cert.Reference13Ideal.S16384x4096 ![0, 1] Cert.Reference13Ideal.Gen.bcast_S1x4096_S16384x4096_0_1
    (broadcastInDim Cert.Reference13Ideal.S1x4096 ![1] Cert.Reference13Ideal.Gen.bcast_S4096_S1x4096_1 g))

/-- The residual stream after a half step: half the other array's norm is added to it. -/
abbrev stream (y : FVec Ideal Cert.Reference13Ideal.S16384x4096 .bf16) (h : FVec Ideal Cert.Reference13Ideal.S16384x4096 .f32) (g : FVec Ideal Cert.Reference13Ideal.S4096 .f32) :
    FVec Ideal Cert.Reference13Ideal.S16384x4096 .f32 :=
  addf h (mulf (broadcastInDim Cert.Reference13Ideal.S16384x4096 ![] Cert.Reference13Ideal.Gen.bcast_S_S16384x4096 (constant Cert.Reference13Ideal.S_ .f32 0x3F000000#32))
    (norm (extf .f32 y Cert.Reference13Ideal.Gen.bitsLt_bf16_f32) g))

/-- The next sub-layer's input: the norm of the new residual stream. -/
abbrev input (y : FVec Ideal Cert.Reference13Ideal.S16384x4096 .bf16) (h : FVec Ideal Cert.Reference13Ideal.S16384x4096 .f32) (g g' : FVec Ideal Cert.Reference13Ideal.S4096 .f32) :
    FVec Ideal Cert.Reference13Ideal.S16384x4096 .bf16 :=
  truncf .bf16 (norm (stream y h g) g') Cert.Reference13Ideal.Gen.bitsLt_bf16_f32

/-- Where each window lies at each point: point `t` takes row tile `t` and the whole weights. -/
theorem places : ∀ t : Fin cfg0.N, win0_0.index t = ![t.val, 0] ∧ win0_1.index t = ![t.val, 0]
    ∧ win0_2.index t = ![0, 0] ∧ win0_3.index t = ![0, 0] ∧ win0_4.index t = ![t.val, 0] ∧ win0_5.index t = ![t.val, 0] :=
  (by decide +kernel : ∀ t : Fin grid0.N, _)

/-- One point's tile of the stream is the target's tile there. -/
theorem tileStream (c : Dev nD) (t : Fin cfg0.N) (y) : k0_pay1 (iblk m c 1 t) (iblk m c 0 t) (iblk m c 2 t) y
    = stream (m ((c : Thread nD τ).loc main_arg0)) (m ((c : Thread nD τ).loc main_arg1)) (m ((c : Thread nD τ).loc main_arg2)) (((cfg0.win 4).blk t).view.emb y) := by
  pointwise [k0_pay1, stream, norm]
  blk_point [iblk, V, places t]

/-- One point's tile of the next input is the target's tile there. -/
theorem tileInput (c : Dev nD) (t : Fin cfg0.N) (y) : k0_pay2 (iblk m c 1 t) (iblk m c 0 t) (iblk m c 2 t) (iblk m c 3 t) y
    = input (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay2, k0_pay1, input, stream, norm]
  blk_point [iblk, V, places t]

/-- The result array after the run is the target. -/
theorem resultStream (c : Dev nD) : (dats m 0 c).arrAt 4 cfg0.N
    = stream (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact tileStream m c t y

/-- The result array after the run is the target. -/
theorem resultInput (c : Dev nD) : (dats m 0 c).arrAt 5 cfg0.N
    = input (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  exact tileInput m c t y

end Cert.Combine

end
-- ==== Proof.Norm.lean ====
/- The norm before a sub-layer: the array the kernel leaves is the reference's. -/
module

public import proofs.«01_k».proof.Proof.Gen.Kernel14Ideal.Frame
public import proofs.«01_k».proof.Proof.Gen.Kernel14Ideal.Value
public import proofs.«01_k».proof.Proof.Gen.Reference14Ideal.Run
public import Idealize.ShloMosaic.Lib.Pipeline.ValueKit

@[expose] public section

set_option maxRecDepth 16384

noncomputable section

namespace Cert.Norm

open Cert.Kernel14Ideal Cert.Kernel14Ideal.Gen
open Idealize.ShloMosaic Idealize.ShloMosaic.TcCoe Idealize.SL.Sem

variable (m : (ℓ : Loc nD τ sig) → Buf (Elt Ideal) ℓ)

/-- The norm of every row of an array, scaled by a weight per column. -/
abbrev norm (x : FVec Ideal Cert.Reference14Ideal.S16384x4096 .f32) (g : FVec Ideal Cert.Reference14Ideal.S4096 .f32) : FVec Ideal Cert.Reference14Ideal.S16384x4096 .f32 :=
  mulf (mulf x (broadcastInDim Cert.Reference14Ideal.S16384x4096 ![0, 1] Cert.Reference14Ideal.Gen.bcast_S16384x1_S16384x4096_0_1 (Host.rsqrt (addf (Host.divf
    (broadcastInDim Cert.Reference14Ideal.S16384x1 ![0] Cert.Reference14Ideal.Gen.bcast_S16384_S16384x1_0 (Host.reduceAdd (mulf x x) (constant Cert.Reference14Ideal.S_ .f32 0x00000000#32)
    Cert.Reference14Ideal.Gen.reducesTo_S16384x4096_S16384_d1 Cert.Reference14Ideal.Gen.h_S_)) (broadcastInDim Cert.Reference14Ideal.S16384x1 ![] Cert.Reference14Ideal.Gen.bcast_S_S16384x1
    (constant Cert.Reference14Ideal.S_ .f32 0x45800000#32))) (broadcastInDim Cert.Reference14Ideal.S16384x1 ![] Cert.Reference14Ideal.Gen.bcast_S_S16384x1
    (constant Cert.Reference14Ideal.S_ .f32 0x358637BD#32)))))) (broadcastInDim Cert.Reference14Ideal.S16384x4096 ![0, 1] Cert.Reference14Ideal.Gen.bcast_S1x4096_S16384x4096_0_1
    (broadcastInDim Cert.Reference14Ideal.S1x4096 ![1] Cert.Reference14Ideal.Gen.bcast_S4096_S1x4096_1 g))

/-- The reference's result: the norm, rounded. -/
abbrev target (x : FVec Ideal Cert.Reference14Ideal.S16384x4096 .f32) (g : FVec Ideal Cert.Reference14Ideal.S4096 .f32) : FVec Ideal Cert.Reference14Ideal.S16384x4096 .bf16 :=
  truncf .bf16 (norm x g) Cert.Reference14Ideal.Gen.bitsLt_bf16_f32

/-- Where each window lies at each point: point `t` takes row tile `t` and the whole weight. -/
theorem places : ∀ t : Fin cfg0.N, win0_0.index t = ![t.val, 0] ∧ win0_1.index t = ![0, 0]
    ∧ win0_2.index t = ![t.val, 0] :=
  (by decide +kernel : ∀ t : Fin grid0.N, _)

/-- One point's tile is the target's tile there. -/
theorem tile (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target, norm]
  blk_point [iblk, V, places t]

/-- The result array after the run is the target. -/
theorem result (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  frame_out
  exact tile m c t y

end Cert.Norm

end
-- ==== Proof.Rest.lean ====
/- The value claims of the remaining calls: each kernel's run and its reference's leave the same results, and the
   references' frames, off the same runs. -/
module

public import proofs.«01_k».proof.Defs
public import proofs.«01_k».proof.Proof.Query
public import proofs.«01_k».proof.Proof.KeyValue
public import proofs.«01_k».proof.Proof.Last
public import proofs.«01_k».proof.Proof.Combine
public import proofs.«01_k».proof.Proof.Norm
public import Idealize.ShloMosaic.Lib.Quiescent

@[expose] public section

set_option maxRecDepth 16384

noncomputable section

namespace Cert.Rest

open Idealize.ShloMosaic Idealize.SL.Sem

/-- The cross attention queries: both runs leave the reference's function of the arguments. -/
theorem query : Cert.algebraic_Kernel9Ideal_Reference9Ideal := fun m g m' g' _ hargs =>
  ⟨fun c => Cert.Query.target (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun r h c => ⟨(h c).1.trans (Cert.Query.result m c), (h c).2⟩)
      (Cert.Kernel9Ideal.Value.run_blocks (F := Ideal) m g),
    by
    refine (θ_run Cert.Reference9Ideal.defs _ _).mono (fun r h c => ⟨(h c).1.trans ?_, (h c).2⟩)
      (Cert.Reference9Ideal.Value.run (F := Ideal) m' g')
    all_goals obtain ⟨h0, h1⟩ := hargs c
    rw [h0, h1]⟩

theorem frame_query : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The cross attention keys and values of the memory: both runs leave the reference's function of the arguments. -/
theorem keyValue : Cert.algebraic_Kernel10Ideal_Reference10Ideal := fun m g m' g' _ hargs =>
  ⟨fun c => Cert.KeyValue.target (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run Cert.Kernel10Ideal.defs _ _).mono (fun r h c => ⟨(h c).1.trans (Cert.KeyValue.result m c), (h c).2⟩)
      (Cert.Kernel10Ideal.Value.run_blocks (F := Ideal) m g),
    by
    refine (θ_run Cert.Reference10Ideal.defs _ _).mono (fun r h c => ⟨(h c).1.trans ?_, (h c).2⟩)
      (Cert.Reference10Ideal.Value.run (F := Ideal) m' g')
    all_goals obtain ⟨h0, h1⟩ := hargs c
    rw [h0, h1]⟩

theorem frame_keyValue : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The last residual addition: both runs leave the reference's function of the arguments. -/
theorem last : Cert.algebraic_Kernel12Ideal_Reference12Ideal := fun m g m' g' _ hargs =>
  ⟨fun c => Cert.Last.stream (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    (θ_run Cert.Kernel12Ideal.defs _ _).mono (fun r h c => ⟨(h c).1.trans (Cert.Last.result m c), (h c).2⟩)
      (Cert.Kernel12Ideal.Value.run_blocks (F := Ideal) m g),
    by
    refine (θ_run Cert.Reference12Ideal.defs _ _).mono (fun r h c => ⟨(h c).1.trans ?_, (h c).2⟩)
      (Cert.Reference12Ideal.Value.run (F := Ideal) m' g')
    all_goals obtain ⟨h0, h1, h2⟩ := hargs c
    rw [h0, h1, h2]⟩

theorem frame_last : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

/-- The norm ahead of a layer: both runs leave the reference's function of the arguments. -/
theorem norm : Cert.algebraic_Kernel14Ideal_Reference14Ideal := fun m g m' g' _ hargs =>
  ⟨fun c => Cert.Norm.target (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run Cert.Kernel14Ideal.defs _ _).mono (fun r h c => ⟨(h c).1.trans (Cert.Norm.result m c), (h c).2⟩)
      (Cert.Kernel14Ideal.Value.run_blocks (F := Ideal) m g),
    by
    refine (θ_run Cert.Reference14Ideal.defs _ _).mono (fun r h c => ⟨(h c).1.trans ?_, (h c).2⟩)
      (Cert.Reference14Ideal.Value.run (F := Ideal) m' g')
    all_goals obtain ⟨h0, h1⟩ := hargs c
    rw [h0, h1]⟩

theorem frame_norm : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

/-- A residual addition and the next norm: both runs leave the reference's functions of the arguments. -/
theorem combine : Cert.algebraic_Kernel13Ideal_Reference13Ideal := fun m g m' g' _ hargs =>
  ⟨fun c => Cert.Combine.stream (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)),
    fun c => Cert.Combine.input (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)),
    (θ_run Cert.Kernel13Ideal.defs _ _).mono (fun r h c => ⟨(h c).1.trans (Cert.Combine.resultStream m c), (h c).2.1.trans (Cert.Combine.resultInput m c), (h c).2.2⟩)
      (Cert.Kernel13Ideal.Value.run_blocks (F := Ideal) m g),
    by
    refine (θ_run Cert.Reference13Ideal.defs _ _).mono (fun r h c => ⟨(h c).1.trans ?_, (h c).2.1.trans ?_, (h c).2.2⟩)
      (Cert.Reference13Ideal.Value.run (F := Ideal) m' g')
    all_goals obtain ⟨h0, h1, h2, h3⟩ := hargs c
    · rw [h0, h1, h2]
    · rw [h0, h1, h2, h3]⟩

theorem frame_combine : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

end Cert.Rest

end
-- ==== Proof.Softmax.lean ====
/- The heads of the cross attention: the reference's array at an index, a softmax of a row's scores over the values. -/
module

public import proofs.«01_k».proof.Proof.Gen.Kernel11Ideal.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

namespace Cert.CrossAttn

open Cert.Kernel11Ideal Cert.Kernel11Ideal.Gen
open Idealize.ShloMosaic Idealize.ShloMosaic.TcCoe Idealize.SL.Sem

variable (m : (ℓ : Loc nD τ sig) → Buf (Elt Ideal) ℓ)

/-- The scores of all heads, scaled. -/
def scores (q : FVec Ideal Cert.Reference11Ideal.S16384x1024 .bf16) (kv : FVec Ideal Cert.Reference11Ideal.S512x2048 .bf16) : FVec Ideal Cert.Reference11Ideal.S2x4x8192x256 .f32 :=
  mulf (Host.dotGeneral Cert.Reference11Ideal.dot_S2x8192x4x256_S2x256x4x256_S2x4x8192x256_3_3_1_1_02_02 none (shapeCast _ (extf .f32 q Cert.Reference11Ideal.Gen.bitsLt_bf16_f32) Cert.Reference11Ideal.Gen.shapeCasts_S16384x1024_S2x8192x4x256)
    (shapeCast _ (extractStridedSlice Cert.Reference11Ideal.S512x1024 ![0, 0] (extf .f32 kv Cert.Reference11Ideal.Gen.bitsLt_bf16_f32) Cert.Reference11Ideal.Gen.slices_S512x2048_S512x1024_0_0) Cert.Reference11Ideal.Gen.shapeCasts_S512x1024_S2x256x4x256))
    (broadcastInDim Cert.Reference11Ideal.S2x4x8192x256 ![] Cert.Reference11Ideal.Gen.bcast_S_S2x4x8192x256 (constant Cert.Reference11Ideal.S_ .f32 0x3D800000#32))

/-- The greatest score of every row. -/
def tops (x : FVec Ideal Cert.Reference11Ideal.S2x4x8192x256 .f32) : FVec Ideal Cert.Reference11Ideal.S2x4x8192 .f32 :=
  maximumf (broadcastInDim Cert.Reference11Ideal.S2x4x8192 ![] Cert.Reference11Ideal.Gen.bcast_S_S2x4x8192 (constant Cert.Reference11Ideal.S_ .f32 0xFF800000#32)) (Host.reduce FloatOps.maximumf x (constant Cert.Reference11Ideal.S_ .f32 0xFF800000#32)
    Cert.Reference11Ideal.Gen.reducesTo_S2x4x8192x256_S2x4x8192_d3 Cert.Reference11Ideal.Gen.h_S_)

/-- The scores' exponentials, each row's greatest score taken off. -/
def expos (x : FVec Ideal Cert.Reference11Ideal.S2x4x8192x256 .f32) : FVec Ideal Cert.Reference11Ideal.S2x4x8192x256 .f32 :=
  Host.exp (subf x (broadcastInDim Cert.Reference11Ideal.S2x4x8192x256 ![0, 1, 2, 3] Cert.Reference11Ideal.Gen.bcast_S2x4x8192x1_S2x4x8192x256_0_1_2_3 (broadcastInDim Cert.Reference11Ideal.S2x4x8192x1 ![0, 1, 2] Cert.Reference11Ideal.Gen.bcast_S2x4x8192_S2x4x8192x1_0_1_2 (tops x))))

/-- Every row divided by its sum. -/
def shares (e : FVec Ideal Cert.Reference11Ideal.S2x4x8192x256 .f32) : FVec Ideal Cert.Reference11Ideal.S2x4x8192x256 .f32 :=
  Host.divf e (broadcastInDim Cert.Reference11Ideal.S2x4x8192x256 ![0, 1, 2, 3] Cert.Reference11Ideal.Gen.bcast_S2x4x8192x1_S2x4x8192x256_0_1_2_3 (broadcastInDim Cert.Reference11Ideal.S2x4x8192x1 ![0, 1, 2] Cert.Reference11Ideal.Gen.bcast_S2x4x8192_S2x4x8192x1_0_1_2
    (Host.reduceAdd e (constant Cert.Reference11Ideal.S_ .f32 0x00000000#32) Cert.Reference11Ideal.Gen.reducesTo_S2x4x8192x256_S2x4x8192_d3 Cert.Reference11Ideal.Gen.h_S_)))

/-- The values averaged with given shares, the heads side by side. -/
def average (p : FVec Ideal Cert.Reference11Ideal.S2x4x8192x256 .f32) (kv : FVec Ideal Cert.Reference11Ideal.S512x2048 .bf16) : FVec Ideal Cert.Reference11Ideal.S16384x1024 .f32 :=
  shapeCast _ (transpose Cert.Reference11Ideal.S2x8192x4x256 [0, 3, 1, 2] (Host.dotGeneral Cert.Reference11Ideal.dot_S2x256x4x256_S2x4x8192x256_S2x4x256x8192_1_3_3_2_02_01 none
    (shapeCast _ (extractStridedSlice Cert.Reference11Ideal.S512x1024 ![0, 1024] (extf .f32 kv Cert.Reference11Ideal.Gen.bitsLt_bf16_f32) Cert.Reference11Ideal.Gen.slices_S512x2048_S512x1024_0_1024) Cert.Reference11Ideal.Gen.shapeCasts_S512x1024_S2x256x4x256) p)
    Cert.Reference11Ideal.Gen.transposes_S2x4x256x8192_S2x8192x4x256_0_3_1_2) Cert.Reference11Ideal.Gen.shapeCasts_S2x8192x4x256_S16384x1024

/-- The reference's heads, side by side. -/
def attn (q : FVec Ideal Cert.Reference11Ideal.S16384x1024 .bf16) (kv : FVec Ideal Cert.Reference11Ideal.S512x2048 .bf16) : FVec Ideal Cert.Reference11Ideal.S16384x1024 .f32 := average (shares (expos (scores q kv))) kv

/-- A row's softmax average: the scores `x`, the values `v`. -/
def soft (x v : Fin 256 → EReal) : EReal :=
  ∑ n, Ideal.div (Ideal.exp (x n - Finset.fold max (Ideal.ofBits FTy.f32 4286578688#32) x Finset.univ))
    (∑ n', Ideal.exp (x n' - Finset.fold max (Ideal.ofBits FTy.f32 4286578688#32) x Finset.univ)) * v n

theorem scores_at (q : FVec Ideal Cert.Reference11Ideal.S16384x1024 .bf16) (kv : FVec Ideal Cert.Reference11Ideal.S512x2048 .bf16) (b : Fin 2) (h : Fin 4) (s : Fin 8192) (n : Fin 256) : scores q kv (ix4 b h s n)
    = (∑ e : Fin 256, q (ix2 (⟨b.val * 8192 + s.val, by omega⟩ : Fin 16384) (⟨h.val * 256 + e.val, by omega⟩ : Fin 1024))
        * kv (ix2 (⟨b.val * 256 + n.val, by omega⟩ : Fin 512) (⟨h.val * 256 + e.val, by omega⟩ : Fin 2048))) * Ideal.ofBits FTy.f32 1031798784#32 := by
  pointwise [scores]

theorem larger_at (x y : FVec Ideal Cert.Reference11Ideal.S2x4x8192 .f32) (i) : maximumf x y i = max (x i) (y i) := rfl

theorem most_at (x : FVec Ideal Cert.Reference11Ideal.S2x4x8192x256 .f32) (b : Fin 2) (h : Fin 4) (s : Fin 8192) :
    Host.reduce FloatOps.maximumf x (constant Cert.Reference11Ideal.S_ .f32 0xFF800000#32) Cert.Reference11Ideal.Gen.reducesTo_S2x4x8192x256_S2x4x8192_d3 Cert.Reference11Ideal.Gen.h_S_ (ix3 b h s)
      = Finset.fold max (Ideal.ofBits FTy.f32 4286578688#32) (fun n : Fin 256 => x (ix4 b h s n)) Finset.univ := by
  rw [Host.reduce_eq_fold, Shape.ReducesTo.fold_fiber_r4_a3]
  rfl

theorem least_at (b : Fin 2) (h : Fin 4) (s : Fin 8192) : broadcastInDim Cert.Reference11Ideal.S2x4x8192 ![] Cert.Reference11Ideal.Gen.bcast_S_S2x4x8192 (constant (F := Ideal) Cert.Reference11Ideal.S_ .f32 0xFF800000#32) (ix3 b h s)
    = Ideal.ofBits FTy.f32 4286578688#32 := by
  pointwise

theorem tops_at (x : FVec Ideal Cert.Reference11Ideal.S2x4x8192x256 .f32) (b : Fin 2) (h : Fin 4) (s : Fin 8192) :
    tops x (ix3 b h s) = Finset.fold max (Ideal.ofBits FTy.f32 4286578688#32) (fun n : Fin 256 => x (ix4 b h s n)) Finset.univ := by
  unfold tops
  rw [larger_at, most_at, least_at]
  exact max_eq_right ((Finset.le_fold_max _).mpr (.inl le_rfl))

theorem expos_at (x : FVec Ideal Cert.Reference11Ideal.S2x4x8192x256 .f32) (b : Fin 2) (h : Fin 4) (s : Fin 8192) (n : Fin 256) :
    expos x (ix4 b h s n) = Ideal.exp (x (ix4 b h s n) - Finset.fold max (Ideal.ofBits FTy.f32 4286578688#32) (fun n : Fin 256 => x (ix4 b h s n)) Finset.univ) := by
  rw [← tops_at x b h s]
  pointwise [expos]

theorem shares_at (x : FVec Ideal Cert.Reference11Ideal.S2x4x8192x256 .f32) (b : Fin 2) (h : Fin 4) (s : Fin 8192) (n : Fin 256) :
    shares x (ix4 b h s n) = Ideal.div (x (ix4 b h s n)) (∑ n' : Fin 256, x (ix4 b h s n')) := by
  pointwise [shares]

theorem average_at (p : FVec Ideal Cert.Reference11Ideal.S2x4x8192x256 .f32) (kv : FVec Ideal Cert.Reference11Ideal.S512x2048 .bf16) (b : Fin 2) (h : Fin 4) (s : Fin 8192) (e : Fin 256) :
    average p kv (ix2 (⟨b.val * 8192 + s.val, by omega⟩ : Fin 16384) (⟨h.val * 256 + e.val, by omega⟩ : Fin 1024))
      = ∑ n : Fin 256, p (ix4 b h s n) * kv (ix2 (⟨b.val * 256 + n.val, by omega⟩ : Fin 512) (⟨1024 + (h.val * 256 + e.val), by omega⟩ : Fin 2048)) := by
  pointwise [average]
  exact Finset.sum_congr rfl fun n _ => mul_comm _ _

theorem attn_at (q : FVec Ideal Cert.Reference11Ideal.S16384x1024 .bf16) (kv : FVec Ideal Cert.Reference11Ideal.S512x2048 .bf16) (b : Fin 2) (h : Fin 4) (s : Fin 8192) (e : Fin 256) :
    attn q kv (ix2 (⟨b.val * 8192 + s.val, by omega⟩ : Fin 16384) (⟨h.val * 256 + e.val, by omega⟩ : Fin 1024))
      = soft (fun n => (∑ e : Fin 256, q (ix2 (⟨b.val * 8192 + s.val, by omega⟩ : Fin 16384) (⟨h.val * 256 + e.val, by omega⟩ : Fin 1024))
        * kv (ix2 (⟨b.val * 256 + n.val, by omega⟩ : Fin 512) (⟨h.val * 256 + e.val, by omega⟩ : Fin 2048))) * Ideal.ofBits FTy.f32 1031798784#32)
        (fun n => kv (ix2 (⟨b.val * 256 + n.val, by omega⟩ : Fin 512) (⟨1024 + (h.val * 256 + e.val), by omega⟩ : Fin 2048))) := by
  unfold attn soft
  rw [average_at]
  simp only [shares_at, expos_at, scores_at]

end Cert.CrossAttn

end
-- ==== Proof.Heads.lean ====
/- The heads of the cross attention, as the kernel's body computes them: each head's payload is the reference's block. -/
module

public import proofs.«01_k».proof.Proof.Softmax

@[expose] public section

set_option maxRecDepth 16384

noncomputable section

namespace Cert.CrossAttn

open Cert.Kernel11Ideal Cert.Kernel11Ideal.Gen
open Idealize.ShloMosaic Idealize.ShloMosaic.TcCoe Idealize.SL.Sem

variable (m : (ℓ : Loc nD τ sig) → Buf (Elt Ideal) ℓ)

/-- Where each window lies at each point. -/
theorem places : ∀ t : Fin cfg0.N, win0_0.index t = ![t.val, 0] ∧ win0_1.index t = ![t.val / 32, 0] ∧ win0_2.index t = ![t.val / 32, 1]
    ∧ win0_3.index t = ![0, 0, 0] ∧ win0_4.index t = ![t.val, 0] ∧ win0_5.index t = ![0, 0] ∧ win0_6.index t = ![0, 0]
    ∧ win0_7.index t = ![t.val, 0] ∧ win0_8.index t = ![t.val, 0] :=
  (by decide +kernel : ∀ t : Fin grid0.N, _)

/-- One head's payload of a tile is a softmax average of its rows, however its body is cut into parts. -/
abbrev headOf (q k v : Vec Ideal S256x256 .bf16) (r d : Fin 256) : EReal :=
  soft (fun n => (∑ e : Fin 256, q (ix2 r e) * k (ix2 n e)) * Ideal.ofBits FTy.f32 1031798784#32) (fun n => v (ix2 n d))

theorem pay_at0 (q k v : Vec Ideal S256x256 .bf16) (r d : Fin 256) : k0_pay2 q k v (ix2 r d) = headOf q k v r d := by
  unfold headOf soft
  pointwise [k0_pay2]

theorem pay_at1 (q k v : Vec Ideal S256x256 .bf16) (r d : Fin 256) : k0_pay4 (k0_pay3 q k) v (ix2 r d) = headOf q k v r d := by
  unfold headOf soft
  pointwise [k0_pay4, k0_pay3]

theorem pay_at2 (q k v : Vec Ideal S256x256 .bf16) (r d : Fin 256) : k0_pay5 q k v (ix2 r d) = headOf q k v r d := by
  unfold headOf soft
  pointwise [k0_pay5]

theorem pay_at3 (q k v : Vec Ideal S256x256 .bf16) (r d : Fin 256) : k0_pay8 (k0_pay6 q k) (k0_pay7 q k) v (ix2 r d) = headOf q k v r d := by
  unfold headOf soft
  pointwise [k0_pay8, k0_pay6, k0_pay7]

theorem ld_at (x : Vec Ideal S256x1024 .bf16) (o : Nat) (inb : ∀ a, (![0, o] : Fin 2 → Nat) a + (![256, 256] : Fin 2 → Nat) a ≤ S256x1024.size a)
    (r e : Fin 256) (j : Fin 1024) (hj : j.val = o + e.val) :
    View.ld x (Rect.unit ![0, o] ![256, 256] inb) (ix2 r e) = x (ix2 r j) := by
  refine congrArg x ?_
  funext a
  apply Fin.ext
  refine (Rect.idx_unit_val _ _ _ (ix2 r e) a).trans ?_
  match a with
  | ⟨0, _⟩ => change 0 + r.val = r.val; omega
  | ⟨1, _⟩ => change o + e.val = j.val; omega

theorem q_at (c : Dev nD) (t : Fin cfg0.N) (r : Fin 256) (j : Fin 1024) (i : Fin 16384) (hi : i.val = 256 * t.val + r.val) :
    iblk m c 0 t (ix2 r j) = m ((c : Thread nD τ).loc main_arg0) (ix2 i j) := by
  blk_point [iblk, V, places t]

theorem k_at (c : Dev nD) (t : Fin cfg0.N) (n : Fin 256) (j : Fin 1024) (i : Fin 512) (hi : i.val = t.val / 32 * 256 + n.val) (j' : Fin 2048) (hj : j'.val = j.val) :
    iblk m c 1 t (ix2 n j) = m ((c : Thread nD τ).loc main_arg1) (ix2 i j') := by
  blk_point [iblk, V, places t]

theorem v_at (c : Dev nD) (t : Fin cfg0.N) (n : Fin 256) (j : Fin 1024) (i : Fin 512) (hi : i.val = t.val / 32 * 256 + n.val) (j' : Fin 2048) (hj : j'.val = 1024 + j.val) :
    iblk m c 2 t (ix2 n j) = m ((c : Thread nD τ).loc main_arg1) (ix2 i j') := by
  blk_point [iblk, V, places t]

/-- The row of the whole array that row `r` of point `t` is. -/
abbrev row (t : Fin cfg0.N) (r : Fin 256) : Fin 16384 := ⟨256 * t.val + r.val, by have := t.isLt; change t.val < 64 at this; omega⟩

theorem head_at (c : Dev nD) (t : Fin cfg0.N) (h : Fin 4) (o : Nat) (ho : o = h.val * 256)
    (inb : ∀ a, (![0, o] : Fin 2 → Nat) a + (![256, 256] : Fin 2 → Nat) a ≤ S256x1024.size a) (r d : Fin 256) (j : Fin 1024) (hj : j.val = o + d.val) :
    headOf (View.ld (iblk m c 0 t) (Rect.unit ![0, o] ![256, 256] inb)) (View.ld (iblk m c 1 t) (Rect.unit ![0, o] ![256, 256] inb))
      (View.ld (iblk m c 2 t) (Rect.unit ![0, o] ![256, 256] inb)) r d
    = attn (m ((c : Thread nD τ).loc main_arg0)) (m ((c : Thread nD τ).loc main_arg1)) (ix2 (row t r) j) := by
  have ht : t.val < 64 := t.isLt
  have hb : t.val / 32 < 2 := by omega
  have hs : t.val % 32 * 256 + r.val < 8192 := by omega
  have ei : row t r = (⟨(⟨t.val / 32, hb⟩ : Fin 2).val * 8192 + (⟨t.val % 32 * 256 + r.val, hs⟩ : Fin 8192).val, by omega⟩ : Fin 16384) := by
    apply Fin.ext
    change 256 * t.val + r.val = t.val / 32 * 8192 + (t.val % 32 * 256 + r.val)
    omega
  have ej : j = (⟨h.val * 256 + d.val, by omega⟩ : Fin 1024) := by apply Fin.ext; change j.val = h.val * 256 + d.val; omega
  rw [ei, ej, attn_at, ← ei]
  unfold headOf
  congr 1
  · funext n
    congr 1
    refine Finset.sum_congr rfl fun e _ => ?_
    rw [ld_at _ o inb r e ⟨h.val * 256 + e.val, by omega⟩ (by change h.val * 256 + e.val = o + e.val; omega),
      ld_at _ o inb n e ⟨h.val * 256 + e.val, by omega⟩ (by change h.val * 256 + e.val = o + e.val; omega),
      q_at m c t r _ (row t r) rfl, k_at m c t n _ ⟨t.val / 32 * 256 + n.val, by omega⟩ rfl ⟨h.val * 256 + e.val, by omega⟩ rfl]
  · funext n
    rw [ld_at _ o inb n d ⟨h.val * 256 + d.val, by omega⟩ (by change h.val * 256 + d.val = o + d.val; omega),
      v_at m c t n _ ⟨t.val / 32 * 256 + n.val, by omega⟩ rfl ⟨1024 + (h.val * 256 + d.val), by omega⟩ rfl]

end Cert.CrossAttn

end
-- ==== Proof.CrossAttn.lean ====
/- The cross attention's output projection, the residual addition behind it and the next norm: the two arrays the kernel
   leaves are the reference's. -/
module

public import proofs.«01_k».proof.Defs
public import proofs.«01_k».proof.Proof.Heads
public import Idealize.ShloMosaic.Lib.Pipeline.ValueKit.Tiles

@[expose] public section

set_option maxRecDepth 16384

noncomputable section

namespace Cert.CrossAttn

open Cert.Kernel11Ideal Cert.Kernel11Ideal.Gen
open Idealize.ShloMosaic Idealize.ShloMosaic.TcCoe Idealize.SL.Sem

variable (m : (ℓ : Loc nD τ sig) → Buf (Elt Ideal) ℓ)

/-- The norm of every row of an array, scaled by a weight per column. -/
abbrev norm (x : FVec Ideal Cert.Reference11Ideal.S16384x4096 .f32) (g : FVec Ideal Cert.Reference11Ideal.S4096 .f32) : FVec Ideal Cert.Reference11Ideal.S16384x4096 .f32 :=
  mulf (mulf x (broadcastInDim Cert.Reference11Ideal.S16384x4096 ![0, 1] Cert.Reference11Ideal.Gen.bcast_S16384x1_S16384x4096_0_1 (Host.rsqrt (addf (Host.divf
    (broadcastInDim Cert.Reference11Ideal.S16384x1 ![0] Cert.Reference11Ideal.Gen.bcast_S16384_S16384x1_0 (Host.reduceAdd (mulf x x) (constant Cert.Reference11Ideal.S_ .f32 0x00000000#32)
    Cert.Reference11Ideal.Gen.reducesTo_S16384x4096_S16384_d1 Cert.Reference11Ideal.Gen.h_S_)) (broadcastInDim Cert.Reference11Ideal.S16384x1 ![] Cert.Reference11Ideal.Gen.bcast_S_S16384x1
    (constant Cert.Reference11Ideal.S_ .f32 0x45800000#32))) (broadcastInDim Cert.Reference11Ideal.S16384x1 ![] Cert.Reference11Ideal.Gen.bcast_S_S16384x1
    (constant Cert.Reference11Ideal.S_ .f32 0x358637BD#32)))))) (broadcastInDim Cert.Reference11Ideal.S16384x4096 ![0, 1] Cert.Reference11Ideal.Gen.bcast_S1x4096_S16384x4096_0_1
    (broadcastInDim Cert.Reference11Ideal.S1x4096 ![1] Cert.Reference11Ideal.Gen.bcast_S4096_S1x4096_1 g))

/-- The heads' output projection. -/
abbrev proj (a : FVec Ideal Cert.Reference11Ideal.S16384x1024 .f32) (w : FVec Ideal Cert.Reference11Ideal.S1x1024x4096 .bf16) : FVec Ideal Cert.Reference11Ideal.S16384x4096 .f32 :=
  Host.dotGeneral Cert.Reference11Ideal.dot_S16384x1024_S1024x4096_S16384x4096_1_0_0_1_n_n none a (extf .f32 (shapeCast _ w Cert.Reference11Ideal.Gen.shapeCasts_S1x1024x4096_S1024x4096) Cert.Reference11Ideal.Gen.bitsLt_bf16_f32)

/-- The residual stream behind the cross attention, of its heads. -/
abbrev streamOf (a : FVec Ideal Cert.Reference11Ideal.S16384x1024 .f32) (w : FVec Ideal Cert.Reference11Ideal.S1x1024x4096 .bf16) (h : FVec Ideal Cert.Reference11Ideal.S16384x4096 .f32) (g : FVec Ideal Cert.Reference11Ideal.S4096 .f32) :
    FVec Ideal Cert.Reference11Ideal.S16384x4096 .f32 :=
  addf h (norm (proj a w) g)

/-- The residual stream behind the cross attention. -/
abbrev stream (q : FVec Ideal Cert.Reference11Ideal.S16384x1024 .bf16) (kv : FVec Ideal Cert.Reference11Ideal.S512x2048 .bf16) (w : FVec Ideal Cert.Reference11Ideal.S1x1024x4096 .bf16)
    (h : FVec Ideal Cert.Reference11Ideal.S16384x4096 .f32) (g : FVec Ideal Cert.Reference11Ideal.S4096 .f32) : FVec Ideal Cert.Reference11Ideal.S16384x4096 .f32 :=
  streamOf (attn q kv) w h g

/-- The next sub-layer's input: the norm of the new residual stream. -/
abbrev input (q : FVec Ideal Cert.Reference11Ideal.S16384x1024 .bf16) (kv : FVec Ideal Cert.Reference11Ideal.S512x2048 .bf16) (w : FVec Ideal Cert.Reference11Ideal.S1x1024x4096 .bf16)
    (h : FVec Ideal Cert.Reference11Ideal.S16384x4096 .f32) (g g' : FVec Ideal Cert.Reference11Ideal.S4096 .f32) : FVec Ideal Cert.Reference11Ideal.S16384x4096 .bf16 :=
  truncf .bf16 (norm (stream q kv w h g) g') Cert.Reference11Ideal.Gen.bitsLt_bf16_f32

/-- The heads' stores, last first. -/
abbrev headPieces (q k v : Vec Ideal S256x1024 .bf16) : List (View.Piece (Elt Ideal) S256x1024 .bf16) :=
  [⟨Rect.unit ![0, 768] ![256, 256] inb_S256x1024_S256x256_0_768, k0_pay8 (k0_pay6 (View.ld q (Rect.unit ![0, 768] ![256, 256] inb_S256x1024_S256x256_0_768)) (View.ld k (Rect.unit ![0, 768] ![256, 256] inb_S256x1024_S256x256_0_768))) (k0_pay7 (View.ld q (Rect.unit ![0, 768] ![256, 256] inb_S256x1024_S256x256_0_768)) (View.ld k (Rect.unit ![0, 768] ![256, 256] inb_S256x1024_S256x256_0_768))) (View.ld v (Rect.unit ![0, 768] ![256, 256] inb_S256x1024_S256x256_0_768))⟩,
   ⟨Rect.unit ![0, 512] ![256, 256] inb_S256x1024_S256x256_0_512, k0_pay5 (View.ld q (Rect.unit ![0, 512] ![256, 256] inb_S256x1024_S256x256_0_512)) (View.ld k (Rect.unit ![0, 512] ![256, 256] inb_S256x1024_S256x256_0_512)) (View.ld v (Rect.unit ![0, 512] ![256, 256] inb_S256x1024_S256x256_0_512))⟩,
   ⟨Rect.unit ![0, 256] ![256, 256] inb_S256x1024_S256x256_0_256, k0_pay4 (k0_pay3 (View.ld q (Rect.unit ![0, 256] ![256, 256] inb_S256x1024_S256x256_0_256)) (View.ld k (Rect.unit ![0, 256] ![256, 256] inb_S256x1024_S256x256_0_256))) (View.ld v (Rect.unit ![0, 256] ![256, 256] inb_S256x1024_S256x256_0_256))⟩,
   ⟨Rect.unit ![0, 0] ![256, 256] inb_S256x1024_S256x256_0_0, k0_pay2 (View.ld q (Rect.unit ![0, 0] ![256, 256] inb_S256x1024_S256x256_0_0)) (View.ld k (Rect.unit ![0, 0] ![256, 256] inb_S256x1024_S256x256_0_0)) (View.ld v (Rect.unit ![0, 0] ![256, 256] inb_S256x1024_S256x256_0_0))⟩]

/-- The heads of the rows that point `t` takes. -/
def rows (c : Dev nD) (t : Fin cfg0.N) : Vec Ideal S256x1024 .bf16 := fun y =>
  attn (m ((c : Thread nD τ).loc main_arg0)) (m ((c : Thread nD τ).loc main_arg1)) (ix2 (row t (y 0)) (y 1))

/-- The scratch buffer behind the four stores holds the heads. -/
theorem canon_heads (c : Dev nD) (t : Fin cfg0.N) (y : S256x1024.Idx) :
    View.canon (headPieces (iblk m c 0 t) (iblk m c 1 t) (iblk m c 2 t)) y = rows m c t y := by
  unfold headPieces rows
  canon_tiles x h
  all_goals
    have ex : x = ix2 (x 0) (x 1) := by funext a; fin_cases a <;> rfl
    have ey : y 0 = (x 0 : Fin 256) := Fin.ext h0
    rw [ex, ey]
  · exact (pay_at3 _ _ _ _ _).trans (head_at m c t 3 768 rfl _ (x 0) (x 1) (y 1) h1)
  · exact (pay_at2 _ _ _ _ _).trans (head_at m c t 2 512 rfl _ (x 0) (x 1) (y 1) h1)
  · exact (pay_at1 _ _ _ _ _).trans (head_at m c t 1 256 rfl _ (x 0) (x 1) (y 1) h1)
  · exact (pay_at0 _ _ _ _ _).trans (head_at m c t 0 0 rfl _ (x 0) (x 1) (y 1) (h1.trans (Nat.zero_add _).symm))

/-- What a read of the scratch buffer behind the four stores returns. -/
theorem read_heads (c : Dev nD) (t : Fin cfg0.N) (B : LoadRect S256x1024) :
    (View.whole cc0_scratch0).readCov (Val := Elt Ideal) (headPieces (iblk m c 0 t) (iblk m c 1 t) (iblk m c 2 t)) B = fun j => rows m c t (B.idx j) := by
  rw [View.readCov_eq_canon']
  funext j
  exact canon_heads m c t _

/-- The blocks the payloads take, at their indices. -/
theorem w_at (c : Dev nD) (t : Fin cfg0.N) (x : Fin 1024) (j : Fin 4096) :
    iblk m c 3 t (ix3 0 x j) = (m ((c : Thread nD τ).loc main_arg2)) (ix3 0 x j) := by
  blk_point [iblk, V, places t]

theorem h_at (c : Dev nD) (t : Fin cfg0.N) (r : Fin 256) (j : Fin 4096) :
    iblk m c 4 t (ix2 r j) = (m ((c : Thread nD τ).loc main_arg3)) (ix2 (row t r) j) := by
  blk_point [iblk, V, places t]

theorem g_at (c : Dev nD) (t : Fin cfg0.N) (j : Fin 4096) :
    iblk m c 5 t (ix2 0 j) = (m ((c : Thread nD τ).loc main_arg4)) (ix1 j) := by
  blk_point [iblk, V, places t]

theorem n_at (c : Dev nD) (t : Fin cfg0.N) (j : Fin 4096) :
    iblk m c 6 t (ix2 0 j) = (m ((c : Thread nD τ).loc main_arg5)) (ix1 j) := by
  blk_point [iblk, V, places t]

/-- Where a tile's element lies in the result. -/
theorem lies7 (t : Fin cfg0.N) (y : S256x4096.Idx) : ((cfg0.win 7).blk t).view.emb y = ix2 (row t (y 0)) (y 1) := by
  blk_point [places t]

theorem lies8 (t : Fin cfg0.N) (y : S256x4096.Idx) : ((cfg0.win 8).blk t).view.emb y = ix2 (row t (y 0)) (y 1) := by
  blk_point [places t]

/-- One point's tile of the stream is the target's tile there. -/
theorem tileStream (c : Dev nD) (t : Fin cfg0.N) (y : S256x4096.Idx) : (dats m 0 c).after 7 t y
    = stream (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  rw [after0_7]
  unfold outsAt0
  dsimp only
  frame_open
  simp (disch := decide) only [↓ View.readCov_skip, ↓ View.readCov_cons_toLoadRect, ↓ View.readCov_fill]
  frame_out
  simp only [read_heads m c t]
  canon_tiles x h
  · obtain ⟨r, j, rfl⟩ : ∃ (r : Fin 128) (j : Fin 4096), x = ix2 r j := ⟨x 0, x 1, by funext a; fin_cases a <;> rfl⟩
    have e0 : y 0 = (⟨128 + r.val, by omega⟩ : Fin 256) := Fin.ext h0
    have e1 : y 1 = j := Fin.ext h1
    rw [e0, e1]
    pointwise [k0_pay9, k0_pay12, rows, stream, streamOf, norm, proj]
    simp only [w_at, h_at, g_at, n_at]
  · obtain ⟨r, j, rfl⟩ : ∃ (r : Fin 128) (j : Fin 4096), x = ix2 r j := ⟨x 0, x 1, by funext a; fin_cases a <;> rfl⟩
    have e0 : y 0 = (⟨r.val, by omega⟩ : Fin 256) := Fin.ext h0
    have e1 : y 1 = j := Fin.ext h1
    rw [e0, e1]
    pointwise [k0_pay9, k0_pay12, rows, stream, streamOf, norm, proj]
    simp only [w_at, h_at, g_at, n_at]

/-- One point's tile of the input is the target's tile there. -/
theorem tileInput (c : Dev nD) (t : Fin cfg0.N) (y : S256x4096.Idx) : (dats m 0 c).after 8 t y
    = input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t (y 0)) (y 1)) := by
  rw [after0_8]
  unfold outsAt0
  dsimp only
  frame_open
  simp (disch := decide) only [↓ View.readCov_skip, ↓ View.readCov_cons_toLoadRect, ↓ View.readCov_fill]
  frame_out
  simp only [read_heads m c t]
  canon_tiles x h
  · obtain ⟨r, j, rfl⟩ : ∃ (r : Fin 128) (j : Fin 4096), x = ix2 r j := ⟨x 0, x 1, by funext a; fin_cases a <;> rfl⟩
    have e0 : y 0 = (⟨128 + r.val, by omega⟩ : Fin 256) := Fin.ext h0
    have e1 : y 1 = j := Fin.ext h1
    rw [e0, e1]
    pointwise [k0_pay1, k0_pay10, k0_pay11, k0_pay9, k0_pay12, rows, input, stream, streamOf, norm, proj]
    simp only [w_at, h_at, g_at, n_at]
  · obtain ⟨r, j, rfl⟩ : ∃ (r : Fin 128) (j : Fin 4096), x = ix2 r j := ⟨x 0, x 1, by funext a; fin_cases a <;> rfl⟩
    have e0 : y 0 = (⟨r.val, by omega⟩ : Fin 256) := Fin.ext h0
    have e1 : y 1 = j := Fin.ext h1
    rw [e0, e1]
    pointwise [k0_pay1, k0_pay10, k0_pay11, k0_pay9, k0_pay12, rows, input, stream, streamOf, norm, proj]
    simp only [w_at, h_at, g_at, n_at]

/-- The result array after the run is the target. -/
theorem resultStream (c : Dev nD) : (dats m 0 c).arrAt 7 cfg0.N
    = stream (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  exact (tileStream m c t y).trans (congrArg _ (lies7 t y).symm)

/-- The result array after the run is the target. -/
theorem resultInput (c : Dev nD) : (dats m 0 c).arrAt 8 cfg0.N
    = input (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  exact (tileInput m c t y).trans (congrArg _ (lies8 t y).symm)

/-- What the reference leaves is the targets. -/
theorem stream40 (m : (ℓ : Loc Cert.Reference11Ideal.nD Cert.Reference11Ideal.τ Cert.Reference11Ideal.sig) → Buf (Elt Ideal) ℓ) (c : Dev Cert.Reference11Ideal.nD) :
    Cert.Reference11Ideal.Value.res_main_v40 (F := Ideal) m c = stream (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) := by
  rfl

theorem input54 (m : (ℓ : Loc Cert.Reference11Ideal.nD Cert.Reference11Ideal.τ Cert.Reference11Ideal.sig) → Buf (Elt Ideal) ℓ) (c : Dev Cert.Reference11Ideal.nD) :
    Cert.Reference11Ideal.Value.res_main_v54 (F := Ideal) m c = input (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5)) := by
  rfl

/-- The cross attention: both runs leave the reference's functions of the arguments. -/
theorem algebraic : Cert.algebraic_Kernel11Ideal_Reference11Ideal := fun m g m' g' _ hargs =>
  ⟨fun c => stream (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => input (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    (θ_run Cert.Kernel11Ideal.defs _ _).mono (fun r h c => ⟨(h c).1.trans (resultStream m c), (h c).2.1.trans (resultInput m c), (h c).2.2⟩)
      (Cert.Kernel11Ideal.Value.run_blocks (F := Ideal) m g),
    by
    refine (θ_run Cert.Reference11Ideal.defs _ _).mono (fun r h c => ⟨(h c).1.trans ?_, (h c).2.1.trans ?_, (h c).2.2⟩)
      (Cert.Reference11Ideal.Value.run (F := Ideal) m' g')
    all_goals obtain ⟨h0, h1, h2, h3, h4, h5⟩ := hargs c
    · rw [stream40 m' c, h0, h1, h2, h3, h4]
    · rw [input54 m' c, h0, h1, h2, h3, h4, h5]⟩

end Cert.CrossAttn

end
-- ==== Proof.CastBranch.lean ====
/- The cast of a branch weight into column tiles: the array the kernel leaves is the reference's. -/
module

public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Pipeline.ValueKit

@[expose] public section

set_option maxRecDepth 16384

noncomputable section

namespace Cert.CastBranch

open Cert.Kernel16Ideal Cert.Kernel16Ideal.Gen
open Idealize.ShloMosaic Idealize.ShloMosaic.TcCoe Idealize.SL.Sem

variable (m : (ℓ : Loc nD τ sig) → Buf (Elt Ideal) ℓ)

/-- The reference's result: the second layer's weight, cut into column tiles, rounded. -/
abbrev target (w : FVec Ideal Cert.Reference16Ideal.S2x2048x4096 .f32) : FVec Ideal Cert.Reference16Ideal.S4x2048x1024 .bf16 :=
  truncf .bf16 (transpose Cert.Reference16Ideal.S4x2048x1024 [1, 0, 2] (shapeCast _ (shapeCast _ (extractStridedSlice Cert.Reference16Ideal.S1x2048x4096 ![1, 0, 0] w
    Cert.Reference16Ideal.Gen.slices_S2x2048x4096_S1x2048x4096_1_0_0) Cert.Reference16Ideal.Gen.shapeCasts_S1x2048x4096_S2048x4096)
    Cert.Reference16Ideal.Gen.shapeCasts_S2048x4096_S2048x4x1024) Cert.Reference16Ideal.Gen.transposes_S2048x4x1024_S4x2048x1024_1_0_2) Cert.Reference16Ideal.Gen.bitsLt_bf16_f32

/-- Where each window lies at each point: point `t` casts column tile `t` of the second layer. -/
theorem places : ∀ t : Fin cfg0.N, win0_0.index t = ![1, 0, t.val] ∧ win0_1.index t = ![t.val, 0, 0] :=
  (by decide +kernel : ∀ t : Fin grid0.N, _)

/-- One point's tile is the target's tile there. -/
theorem tile (c : Dev nD) (t : Fin cfg0.N) (y) : k0_pay1 (iblk m c 0 t) y
    = target (m ((c : Thread nD τ).loc main_arg0)) (((cfg0.win 1).blk t).view.emb y) := by
  pointwise [k0_pay1, target]
  blk_point [iblk, V, places t]

/-- The result array after the run is the target. -/
theorem result (c : Dev nD) : (dats m 0 c).arrAt 1 cfg0.N = target (m ((c : Thread nD τ).loc main_arg0)) := by
  refine (dats m 0 c).arrAt_eq_of_covers 1 _ (by decide +kernel) fun t _ y => ?_
  blk_simp
  rw [after0_1]
  frame_out
  exact tile m c t y

end Cert.CastBranch

end
-- ==== Proof.CastQuery.lean ====
/- The cast of the cross attention's query weight: the array the kernel leaves is the reference's. -/
module

public import proofs.«01_k».proof.Proof.Gen.Kernel17Ideal.Frame
public import proofs.«01_k».proof.Proof.Gen.Kernel17Ideal.Value
public import proofs.«01_k».proof.Proof.Gen.Reference17Ideal.Run
public import Idealize.ShloMosaic.Lib.Pipeline.ValueKit

@[expose] public section

set_option maxRecDepth 16384

noncomputable section

namespace Cert.CastQuery

open Cert.Kernel17Ideal Cert.Kernel17Ideal.Gen
open Idealize.ShloMosaic Idealize.ShloMosaic.TcCoe Idealize.SL.Sem

variable (m : (ℓ : Loc nD τ sig) → Buf (Elt Ideal) ℓ)

/-- The reference's result: the second layer's weight, rounded. -/
abbrev target (w : FVec Ideal Cert.Reference17Ideal.S2x4096x1024 .f32) : FVec Ideal Cert.Reference17Ideal.S1x4096x1024 .bf16 :=
  truncf .bf16 (extractStridedSlice Cert.Reference17Ideal.S1x4096x1024 ![1, 0, 0] w Cert.Reference17Ideal.Gen.slices_S2x4096x1024_S1x4096x1024_1_0_0) Cert.Reference17Ideal.Gen.bitsLt_bf16_f32

/-- Where each window lies at each point: point `t` casts tile `t` of the rows of the second layer. -/
theorem places : ∀ t : Fin cfg0.N, win0_0.index t = ![1, t.val, 0] ∧ win0_1.index t = ![0, t.val, 0] :=
  (by decide +kernel : ∀ t : Fin grid0.N, _)

/-- One point's tile is the target's tile there. -/
theorem tile (c : Dev nD) (t : Fin cfg0.N) (y) : k0_pay1 (iblk m c 0 t) y
    = target (m ((c : Thread nD τ).loc main_arg0)) (((cfg0.win 1).blk t).view.emb y) := by
  pointwise [k0_pay1, target]
  blk_point [iblk, V, places t]

/-- The result array after the run is the target. -/
theorem result (c : Dev nD) : (dats m 0 c).arrAt 1 cfg0.N = target (m ((c : Thread nD τ).loc main_arg0)) := by
  refine (dats m 0 c).arrAt_eq_of_covers 1 _ (by decide +kernel) fun t _ y => ?_
  blk_simp
  rw [after0_1]
  frame_out
  exact tile m c t y

end Cert.CastQuery

end
-- ==== Proof.CastOut.lean ====
/- The cast of the cross attention's output weight: the array the kernel leaves is the reference's. -/
module

public import proofs.«01_k».proof.Proof.Gen.Kernel18Ideal.Frame
public import proofs.«01_k».proof.Proof.Gen.Kernel18Ideal.Value
public import proofs.«01_k».proof.Proof.Gen.Reference18Ideal.Run
public import Idealize.ShloMosaic.Lib.Pipeline.ValueKit

@[expose] public section

set_option maxRecDepth 16384

noncomputable section

namespace Cert.CastOut

open Cert.Kernel18Ideal Cert.Kernel18Ideal.Gen
open Idealize.ShloMosaic Idealize.ShloMosaic.TcCoe Idealize.SL.Sem

variable (m : (ℓ : Loc nD τ sig) → Buf (Elt Ideal) ℓ)

/-- The reference's result: the second layer's weight, rounded. -/
abbrev target (w : FVec Ideal Cert.Reference18Ideal.S2x1024x4096 .f32) : FVec Ideal Cert.Reference18Ideal.S1x1024x4096 .bf16 :=
  truncf .bf16 (extractStridedSlice Cert.Reference18Ideal.S1x1024x4096 ![1, 0, 0] w Cert.Reference18Ideal.Gen.slices_S2x1024x4096_S1x1024x4096_1_0_0) Cert.Reference18Ideal.Gen.bitsLt_bf16_f32

/-- Where each window lies at each point: point `t` casts tile `t` of the rows of the second layer. -/
theorem places : ∀ t : Fin cfg0.N, win0_0.index t = ![1, t.val, 0] ∧ win0_1.index t = ![0, t.val, 0] :=
  (by decide +kernel : ∀ t : Fin grid0.N, _)

/-- One point's tile is the target's tile there. -/
theorem tile (c : Dev nD) (t : Fin cfg0.N) (y) : k0_pay1 (iblk m c 0 t) y
    = target (m ((c : Thread nD τ).loc main_arg0)) (((cfg0.win 1).blk t).view.emb y) := by
  pointwise [k0_pay1, target]
  blk_point [iblk, V, places t]

/-- The result array after the run is the target. -/
theorem result (c : Dev nD) : (dats m 0 c).arrAt 1 cfg0.N = target (m ((c : Thread nD τ).loc main_arg0)) := by
  refine (dats m 0 c).arrAt_eq_of_covers 1 _ (by decide +kernel) fun t _ y => ?_
  blk_simp
  rw [after0_1]
  frame_out
  exact tile m c t y

end Cert.CastOut

end
-- ==== Proof.Cast.lean ====
/- The value claims of the weight casts: each kernel's run and its reference's leave the same result, and the references'
   frames, off the same runs. -/
module

public import proofs.«01_k».proof.Defs
public import proofs.«01_k».proof.Proof.CastBranch
public import proofs.«01_k».proof.Proof.CastQuery
public import proofs.«01_k».proof.Proof.CastOut
public import Idealize.ShloMosaic.Lib.Quiescent

@[expose] public section

set_option maxRecDepth 16384

noncomputable section

namespace Cert.Cast

open Idealize.ShloMosaic Idealize.SL.Sem

/-- A branch weight: both runs leave the reference's function of the argument. -/
theorem branch : Cert.algebraic_Kernel16Ideal_Reference16Ideal := fun m g m' g' _ hargs =>
  ⟨fun c => Cert.CastBranch.target (m ((c.tc : Thread Cert.Kernel16Ideal.nD Cert.Kernel16Ideal.τ).loc Cert.Kernel16Ideal.main_arg0)),
    (θ_run Cert.Kernel16Ideal.defs _ _).mono (fun r h c => ⟨(h c).1.trans (Cert.CastBranch.result m c), (h c).2⟩)
      (Cert.Kernel16Ideal.Value.run_blocks (F := Ideal) m g),
    by
    refine (θ_run Cert.Reference16Ideal.defs _ _).mono (fun r h c => ⟨(h c).1.trans ?_, (h c).2⟩)
      (Cert.Reference16Ideal.Value.run (F := Ideal) m' g')
    rw [hargs c]⟩

theorem frame_branch : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

/-- The query weight: both runs leave the reference's function of the argument. -/
theorem query : Cert.algebraic_Kernel17Ideal_Reference17Ideal := fun m g m' g' _ hargs =>
  ⟨fun c => Cert.CastQuery.target (m ((c.tc : Thread Cert.Kernel17Ideal.nD Cert.Kernel17Ideal.τ).loc Cert.Kernel17Ideal.main_arg0)),
    (θ_run Cert.Kernel17Ideal.defs _ _).mono (fun r h c => ⟨(h c).1.trans (Cert.CastQuery.result m c), (h c).2⟩)
      (Cert.Kernel17Ideal.Value.run_blocks (F := Ideal) m g),
    by
    refine (θ_run Cert.Reference17Ideal.defs _ _).mono (fun r h c => ⟨(h c).1.trans ?_, (h c).2⟩)
      (Cert.Reference17Ideal.Value.run (F := Ideal) m' g')
    rw [hargs c]⟩

theorem frame_query : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

/-- The output weight: both runs leave the reference's function of the argument. -/
theorem out : Cert.algebraic_Kernel18Ideal_Reference18Ideal := fun m g m' g' _ hargs =>
  ⟨fun c => Cert.CastOut.target (m ((c.tc : Thread Cert.Kernel18Ideal.nD Cert.Kernel18Ideal.τ).loc Cert.Kernel18Ideal.main_arg0)),
    (θ_run Cert.Kernel18Ideal.defs _ _).mono (fun r h c => ⟨(h c).1.trans (Cert.CastOut.result m c), (h c).2⟩)
      (Cert.Kernel18Ideal.Value.run_blocks (F := Ideal) m g),
    by
    refine (θ_run Cert.Reference18Ideal.defs _ _).mono (fun r h c => ⟨(h c).1.trans ?_, (h c).2⟩)
      (Cert.Reference18Ideal.Value.run (F := Ideal) m' g')
    rw [hargs c]⟩

theorem frame_out : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

end Cert.Cast

end
-- ==== Proof.lean ====
/- The proof of the claims: the programs' frames, the idealizations and the value claims. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Algebraic
public import proofs.«01_k».proof.Proof.InProjRunBits
public import proofs.«01_k».proof.Proof.Dense
public import proofs.«01_k».proof.Proof.Rest
public import proofs.«01_k».proof.Proof.CrossAttn
public import proofs.«01_k».proof.Proof.Cast
public import Idealize.ShloMosaic.Lib.Quiescent

@[expose] public section

noncomputable section

namespace Cert.Proof

open Idealize.ShloMosaic Idealize.SL.Sem

/-- The reference runs and leaves its arguments as they were: read off its run over the loop's states, the states
    being its step iterated from what the program holds before the loop. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_crossAttn : Cert.quiescent_Reference11Ideal := fun m ρ _ =>
  (θ_run Cert.Reference11Ideal.defs _ _).mono (fun r h => ⟨fun c => (h c).2.2,
      Idealize.ShloMosaic.sem_eq_zero_of_no_sems (by decide) r.2⟩)
    (Cert.Reference11Ideal.Value.run (F := Ideal) m ρ)

theorem frame_mlstm : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.HGRN.preFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, Cert.Dense.frame_up,
  fun m ρ _ => Cert.Kernel3.Gen.frame m ρ, fun m ρ _ => Cert.Kernel3Ideal.Gen.frame m ρ, Cert.Dense.frame_down,
  fun m ρ _ => Cert.Kernel4.InProj.frame m ρ, fun m ρ _ => Cert.Kernel4Ideal.InProj.frame m ρ, Cert.Dense.frame_inProj,
  fun m ρ _ => Cert.Kernel5.Gen.frame m ρ, fun m ρ _ => Cert.Kernel5Ideal.Gen.frame m ρ, Cert.Dense.frame_mergeGate,
  fun m ρ _ => Cert.Kernel6.Gen.frame m ρ, fun m ρ _ => Cert.Kernel6Ideal.Gen.frame m ρ, Cert.Dense.frame_mixOut,
  fun m ρ _ => Cert.Kernel7.Gen.frame m ρ, fun m ρ _ => Cert.Kernel7Ideal.Gen.frame m ρ, Cert.Dense.frame_branch,
  fun m ρ _ => Cert.Kernel8.Gen.frame m ρ, fun m ρ _ => Cert.Kernel8Ideal.Gen.frame m ρ, Cert.Dense.frame_branchMerge,
  fun m ρ _ => Cert.Kernel9.Gen.frame m ρ, fun m ρ _ => Cert.Kernel9Ideal.Gen.frame m ρ, Cert.Rest.frame_query,
  fun m ρ _ => Cert.Kernel10.Gen.frame m ρ, fun m ρ _ => Cert.Kernel10Ideal.Gen.frame m ρ, Cert.Rest.frame_keyValue,
  fun m ρ _ => Cert.Kernel11.Gen.frame m ρ, fun m ρ _ => Cert.Kernel11Ideal.Gen.frame m ρ, frame_crossAttn,
  fun m ρ _ => Cert.Kernel12.Gen.frame m ρ, fun m ρ _ => Cert.Kernel12Ideal.Gen.frame m ρ, Cert.Rest.frame_last,
  fun m ρ _ => Cert.Kernel13.Gen.frame m ρ, fun m ρ _ => Cert.Kernel13Ideal.Gen.frame m ρ, Cert.Rest.frame_combine,
  fun m ρ _ => Cert.Kernel14.Gen.frame m ρ, fun m ρ _ => Cert.Kernel14Ideal.Gen.frame m ρ, Cert.Rest.frame_norm,
  fun m ρ _ => Cert.Kernel15.Gen.frame m ρ, fun m ρ _ => Cert.Kernel15Ideal.Gen.frame m ρ, frame_mlstm,
  fun m ρ _ => Cert.Kernel16.Gen.frame m ρ, fun m ρ _ => Cert.Kernel16Ideal.Gen.frame m ρ, Cert.Cast.frame_branch,
  fun m ρ _ => Cert.Kernel17.Gen.frame m ρ, fun m ρ _ => Cert.Kernel17Ideal.Gen.frame m ρ, Cert.Cast.frame_query,
  fun m ρ _ => Cert.Kernel18.Gen.frame m ρ, fun m ρ _ => Cert.Kernel18Ideal.Gen.frame m ρ, Cert.Cast.frame_out,
  trivial, Cert.HGRN.algebraic,
  trivial, Cert.Dense.up,
  trivial, Cert.Dense.down,
  trivial, Cert.Dense.inProj,
  trivial, Cert.Dense.mergeGate,
  trivial, Cert.Dense.mixOut,
  trivial, Cert.Dense.branch,
  trivial, Cert.Dense.branchMerge,
  trivial, Cert.Rest.query,
  trivial, Cert.Rest.keyValue,
  trivial, Cert.CrossAttn.algebraic,
  trivial, Cert.Rest.last,
  trivial, Cert.Rest.combine,
  trivial, Cert.Rest.norm,
  trivial,
  trivial, Cert.Cast.branch,
  trivial, Cert.Cast.query,
  trivial, Cert.Cast.out⟩

end Cert.Proof

end
